-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_classifier [hPre_finite_classifier : Cert.Pre_finite_classifier.Facts] (m : (ℓ : Loc Cert.KernelIdeal.nD Cert.KernelIdeal.τ Cert.KernelIdeal.sig) → Buf (Elt Ideal) ℓ) : Prop :=
  ∀ c : Dev Cert.KernelIdeal.nD,
    (Cert.Pre_finite_classifier.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_classifier [hPre_finite_classifier : Cert.Pre_finite_classifier.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_classifier.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_classifier [hKernelIdeal : Cert.KernelIdeal.Facts] [hPre_finite_classifier : Cert.Pre_finite_classifier.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_classifier m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_classifier [hReferenceIdeal : Cert.ReferenceIdeal.Facts] [hPre_finite_classifier : Cert.Pre_finite_classifier.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_classifier m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_classifier [hKernelIdeal : Cert.KernelIdeal.Facts] [hReferenceIdeal : Cert.ReferenceIdeal.Facts] [hPre_finite_classifier : Cert.Pre_finite_classifier.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_classifier m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_classifier : Cert.Pre_finite_classifier.Facts),
    quiescent_Kernel (hKernel := hKernel)
    ∧ quiescent_KernelIdeal (hKernelIdeal := hKernelIdeal)
    ∧ quiescent_KernelIdeal_pre_finite_classifier (hKernelIdeal := hKernelIdeal) (hPre_finite_classifier := hPre_finite_classifier)
    ∧ quiescent_ReferenceIdeal (hReferenceIdeal := hReferenceIdeal)
    ∧ quiescent_ReferenceIdeal_pre_finite_classifier (hReferenceIdeal := hReferenceIdeal) (hPre_finite_classifier := hPre_finite_classifier)
    ∧ preserves_Kernel_KernelIdeal
    ∧ algebraic_KernelIdeal_ReferenceIdeal_pre_finite_classifier (hKernelIdeal := hKernelIdeal) (hReferenceIdeal := hReferenceIdeal) (hPre_finite_classifier := hPre_finite_classifier)
-- ==== Pre_finite_classifier.lean ====
abbrev S1024x128 : Shape := ⟨2, ![1024, 128]⟩
abbrev S100000x128 : Shape := ⟨2, ![100000, 128]⟩
abbrev S1 : Shape := ⟨1, ![1]⟩
abbrev S_ : Shape := ⟨0, ![]⟩

class Facts : Prop where
  shapeCasts_S1_S_ : S1.ShapeCasts S_

variable [Facts]

def fn {F : FTy → Type} [FloatOps F] (main_arg0 : FVec F S1024x128 .f32) (main_arg1 : FVec F S100000x128 .f32) (main_arg2 : FVec F S1 .f32) (main_arg3 : FVec F S1 .f32) : IVec S_ 1 :=
  let main_v0 : FVec F S_ .f32 := shapeCast S_ main_arg2 shapeCasts_S1_S_
  let main_v1 : FVec F S_ .f32 := Host.absf main_v0
  let main_cst : FVec F S_ .f32 := constant S_ .f32 0x7F800000#32
  let main_v2 : IVec S_ 1 := cmpf .olt main_v1 main_cst
  let main_v3 : FVec F S_ .f32 := shapeCast S_ main_arg3 shapeCasts_S1_S_
  let main_v4 : FVec F S_ .f32 := Host.absf main_v3
  let main_cst_0 : FVec F S_ .f32 := constant S_ .f32 0x7F800000#32
  let main_v5 : IVec S_ 1 := cmpf .olt main_v4 main_cst_0
  let main_v6 : IVec S_ 1 := andi main_v2 main_v5
  main_v6
-- ==== Kernel.lean ====
abbrev S1024x128 : Shape := ⟨2, ![1024, 128]⟩
abbrev S100000x128 : Shape := ⟨2, ![100000, 128]⟩
abbrev S1 : Shape := ⟨1, ![1]⟩
abbrev S_ : Shape := ⟨0, ![]⟩
abbrev S100352x128 : Shape := ⟨2, ![100352, 128]⟩
abbrev S1024x1 : Shape := ⟨2, ![1024, 1]⟩
abbrev S2048x128 : Shape := ⟨2, ![2048, 128]⟩
abbrev S1024 : Shape := ⟨1, ![1024]⟩
abbrev S2048 : Shape := ⟨1, ![2048]⟩
abbrev S2048x1 : Shape := ⟨2, ![2048, 1]⟩
abbrev S1024x2048 : Shape := ⟨2, ![1024, 2048]⟩

abbrev nBuf : Space → Nat
  | .hbm => 9
  | .vmem => 8
  | .smem => 2
  | _ => 0

abbrev bufTy : (tb : Table) → Fin (tcTables nBuf tb) → BufTy
  | .hbm, ⟨0, _⟩ => ⟨S1024x128, .f32⟩
  | .hbm, ⟨1, _⟩ => ⟨S100000x128, .f32⟩
  | .hbm, ⟨2, _⟩ => ⟨S1, .f32⟩
  | .hbm, ⟨3, _⟩ => ⟨S1, .f32⟩
  | .hbm, ⟨4, _⟩ => ⟨S_, .i32⟩
  | .hbm, ⟨5, _⟩ => ⟨S_, .f32⟩
  | .hbm, ⟨6, _⟩ => ⟨S100352x128, .f32⟩
  | .hbm, ⟨7, _⟩ => ⟨S1024x1, .i32⟩
  | .hbm, ⟨8, _⟩ => ⟨S1024x1, .f32⟩
  | .local _ .vmem, ⟨0, _⟩ => ⟨S1024x128, .f32⟩
  | .local _ .vmem, ⟨1, _⟩ => ⟨S2048x128, .f32⟩
  | .local _ .vmem, ⟨2, _⟩ => ⟨S2048x128, .f32⟩
  | .local _ .vmem, ⟨3, _⟩ => ⟨S1024x1, .i32⟩
  | .local _ .vmem, ⟨4, _⟩ => ⟨S1024x1, .f32⟩
  | .local _ .vmem, ⟨5, _⟩ => ⟨S1024x128, .bf16⟩
  | .local _ .vmem, ⟨6, _⟩ => ⟨S1024x128, .f32⟩
  | .local _ .vmem, ⟨7, _⟩ => ⟨S1024x128, .i32⟩
  | .local _ .smem, ⟨0, _⟩ => ⟨S1, .f32⟩
  | .local _ .smem, ⟨1, _⟩ => ⟨S1, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg4_0 : Ref sig .tc := ⟨.vmem, 3, rfl⟩
abbrev cc0_stg5_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6

abbrev nD : Nat := 1
abbrev τ : Topo := Topo.v7x

variable {F : FTy → Type} [FloatOps F]

abbrev grid0 : Pipeline.Grid := ⟨1, ![49], ![false]⟩

def k0_cond4 (i : grid0.Coords) : BitVec 1 :=
  let arg0 : BitVec 32 := BitVec.ofNat 32 (i 0).val
  let c48_i32_15 : BitVec 32 := 48#32
  let v28 : BitVec 1 := Scalar.cmpi .eq arg0 c48_i32_15
  let v29 : BitVec 32 := Scalar.extui v28
  let c0_i32_16 : BitVec 32 := 0#32
  let v30 : BitVec 1 := Scalar.cmpi .ne v29 c0_i32_16
  v30

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S1024x128 : Shape := ⟨2, ![1024, 128]⟩
abbrev S100000x128 : Shape := ⟨2, ![100000, 128]⟩
abbrev S1 : Shape := ⟨1, ![1]⟩
abbrev S_ : Shape := ⟨0, ![]⟩
abbrev S1024 : Shape := ⟨1, ![1024]⟩
abbrev S1024x1 : Shape := ⟨2, ![1024, 1]⟩
abbrev S100000 : Shape := ⟨1, ![100000]⟩
abbrev S100000x1 : Shape := ⟨2, ![100000, 1]⟩
abbrev S128x100000 : Shape := ⟨2, ![128, 100000]⟩
abbrev S1024x100000 : Shape := ⟨2, ![1024, 100000]⟩

abbrev nBuf : Space → Nat
  | .hbm => 53
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S100000x128, .f32⟩
  | .hbm, ⟨2, _⟩ => ⟨S1, .f32⟩
  | .hbm, ⟨3, _⟩ => ⟨S1, .f32⟩
  | .hbm, ⟨4, _⟩ => ⟨S1024x128, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S1024x128, .f32⟩
  | .hbm, ⟨13, _⟩ => ⟨S1024x128, .f32⟩
  | .hbm, ⟨14, _⟩ => ⟨S100000x128, .f32⟩
  | .hbm, ⟨15, _⟩ => ⟨S_, .f32⟩
  | .hbm, ⟨16, _⟩ => ⟨S100000, .f32⟩
  | .hbm, ⟨17, _⟩ => ⟨S100000x1, .f32⟩
  | .hbm, ⟨18, _⟩ => ⟨S100000x1, .f32⟩
  | .hbm, ⟨19, _⟩ => ⟨S_, .f32⟩
  | .hbm, ⟨20, _⟩ => ⟨S100000x1, .f32⟩
  | .hbm, ⟨21, _⟩ => ⟨S100000x1, .f32⟩
  | .hbm, ⟨22, _⟩ => ⟨S100000x128, .f32⟩
  | .hbm, ⟨23, _⟩ => ⟨S100000x128, .f32⟩
  | .hbm, ⟨24, _⟩ => ⟨S128x100000, .f32⟩
  | .hbm, ⟨25, _⟩ => ⟨S1024x100000, .f32⟩
  | .hbm, ⟨26, _⟩ => ⟨S_, .f32⟩
  | .hbm, ⟨27, _⟩ => ⟨S1024x100000, .f32⟩
  | .hbm, ⟨28, _⟩ => ⟨S1024x100000, .f32⟩
  | .hbm, ⟨29, _⟩ => ⟨S_, .f32⟩
  | .hbm, ⟨30, _⟩ => ⟨S1024x100000, .f32⟩
  | .hbm, ⟨31, _⟩ => ⟨S1024x100000, .f32⟩
  | .hbm, ⟨32, _⟩ => ⟨S1024x100000, .f32⟩
  | .hbm, ⟨33, _⟩ => ⟨S1024x100000, .f32⟩
  | .hbm, ⟨34, _⟩ => ⟨S_, .f32⟩
  | .hbm, ⟨35, _⟩ => ⟨S1024x100000, .f32⟩
  | .hbm, ⟨36, _⟩ => ⟨S1024x100000, .f32⟩
  | .hbm, ⟨37, _⟩ => ⟨S_, .f32⟩
  | .hbm, ⟨38, _⟩ => ⟨S1024x100000, .f32⟩
  | .hbm, ⟨39, _⟩ => ⟨S1024x100000, .f32⟩
  | .hbm, ⟨40, _⟩ => ⟨S1024x1, .f32⟩
  | .hbm, ⟨41, _⟩ => ⟨S1024x1, .i32⟩
  | .hbm, ⟨42, _⟩ => ⟨S1024, .f32⟩
  | .hbm, ⟨43, _⟩ => ⟨S1024, .i32⟩
  | .hbm, ⟨44, _⟩ => ⟨S_, .f32⟩
  | .hbm, ⟨45, _⟩ => ⟨S1024, .f32⟩
  | .hbm, ⟨46, _⟩ => ⟨S1024, .i1⟩
  | .hbm, ⟨47, _⟩ => ⟨S_, .i32⟩
  | .hbm, ⟨48, _⟩ => ⟨S_, .i32⟩
  | .hbm, ⟨49, _⟩ => ⟨S1024, .i32⟩
  | .hbm, ⟨50, _⟩ => ⟨S1024, .i32⟩
  | .hbm, ⟨51, _⟩ => ⟨S1024x1, .i32⟩
  | .hbm, ⟨52, _⟩ => ⟨S1024x1, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call1_v0 : Ref sig .tc := ⟨.hbm, 14, rfl⟩
abbrev main_call1_cst : Ref sig .tc := ⟨.hbm, 15, rfl⟩
abbrev main_call1_v1 : Ref sig .tc := ⟨.hbm, 16, rfl⟩
abbrev main_call1_v2 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_v23 : Ref sig .tc := ⟨.hbm, 39, rfl⟩
abbrev main_values : Ref sig .tc := ⟨.hbm, 40, rfl⟩
abbrev main_indices : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_c : Ref sig .tc := ⟨.hbm, 47, rfl⟩
abbrev main_call2_v0 : Ref sig .tc := ⟨.hbm, 48, rfl⟩
abbrev main_call2_v1 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩

abbrev nD : Nat := 1
abbrev τ : Topo := Topo.v7x

variable {F : FTy → Type} [FloatOps F]
-- ==== Proof.Carry.Kernel.Runs.lean ====
/- What the three runs of the kernel as printed's body share: the launch kit, the grid conditions in closed form,
   the blocks the pipeline hands the body, with all three scratch operands carried from point to point.
   Follows the generated module of the same place; the scratch of normalised queries (`arg7`), stored at the
   first point and read at every point, is carried here beside the running maximum and the running chunk. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Carry

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`. -/
abbrev V (c : Dev nD) (b : Ref sig .tc) : Buf (Elt F) ((c : Thread nD τ).loc b) :=
  StableHlo.after (List.flatten [hostOps0, hostOps0_1]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      (Pipeline.RDat.FramePost.arr_in h c 2 rfl).trans ((hA c 2).trans (V_main_arg2 m c)),
      (Pipeline.RDat.FramePost.arr_in h c 3 rfl).trans ((hA c 3).trans (V_main_arg3 m c))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 49 = 0 :=
  (fun t => by
    have ht : t.val < 49 := Nat.lt_of_lt_of_eq t.isLt N_0
    have e0 : (grid0.coords t 0).val = t.val / 1 % 49 := Pipeline.Grid.coords_val t 0 (by decide) rfl
    simp only [cond0_0, e0]
    word_cmp
   : ∀ t : Fin grid0.N, cond0_0 (grid0.coords t) ↔ t.val % 49 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 0).val) 48#32)) 0#32) = 1#1
/-- It holds at the last point only — by arithmetic of the point. -/
theorem hcond0_1 : ∀ t : Fin cfg0.N, cond0_1 (grid0.coords t) ↔ t.val % 49 = 48 :=
  (fun t => by
    have ht : t.val < 49 := Nat.lt_of_lt_of_eq t.isLt N_0
    have e0 : (grid0.coords t 0).val = t.val / 1 % 49 := Pipeline.Grid.coords_val t 0 (by decide) rfl
    simp only [cond0_1, e0]
    word_cmp
   : ∀ t : Fin grid0.N, cond0_1 (grid0.coords t) ↔ t.val % 49 = 48)

/-- The condition of the body's `scf.if` 2 (`k0_h3`), from the grid coordinates (the skeleton's scalar
    chain substituted). -/
abbrev cond0_2 (i : grid0.Coords) : Prop := (Scalar.cmpi .ne (Scalar.extui (Scalar.cmpi .ne (BitVec.ofNat 32 (i 0).val) 48#32)) 0#32) = 1#1
/-- It holds at the points before point 48 — by arithmetic of the point. -/
theorem hcond0_2 : ∀ t : Fin cfg0.N, cond0_2 (grid0.coords t) ↔ t.val < 48 :=
  (fun t => by
    have ht : t.val < 49 := Nat.lt_of_lt_of_eq t.isLt N_0
    have e0 : (grid0.coords t 0).val = t.val / 1 % 49 := Pipeline.Grid.coords_val t 0 (by decide) rfl
    simp only [cond0_2, e0]
    word_cmp
   : ∀ t : Fin grid0.N, cond0_2 (grid0.coords t) ↔ t.val < 48)

/-- The condition of the body's `scf.if` 3 (`k0_h4`), from the grid coordinates (the skeleton's scalar
    chain substituted). -/
abbrev cond0_3 (i : grid0.Coords) : Prop := k0_cond4 i = 1#1
/-- It holds at the last point only — by arithmetic of the point. -/
theorem hcond0_3 : ∀ t : Fin cfg0.N, cond0_3 (grid0.coords t) ↔ t.val % 49 = 48 :=
  (fun t => by
    have ht : t.val < 49 := Nat.lt_of_lt_of_eq t.isLt N_0
    have e0 : (grid0.coords t 0).val = t.val / 1 % 49 := Pipeline.Grid.coords_val t 0 (by decide) rfl
    simp only [cond0_3, k0_cond4, e0]
    word_cmp
   : ∀ t : Fin grid0.N, cond0_3 (grid0.coords t) ↔ t.val % 49 = 48)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S1024x128 .bf16 := Memref.whole cc0_scratch0
abbrev scM0_1 : Memref sig .tc .vmem S1024x128 .f32 := Memref.whole cc0_scratch1
abbrev scM0_2 : Memref sig .tc .vmem S1024x128 .i32 := Memref.whole cc0_scratch2
/-- The scratch `arg7` the kernel carries between points, as a view: what it holds is stated through it. -/
abbrev VS0_0 : View sig .tc .vmem S1024x128 .bf16 := scM0_0.view
/-- The scratch `arg8` the kernel carries between points, as a view: what it holds is stated through it. -/
abbrev VS0_1 : View sig .tc .vmem S1024x128 .f32 := scM0_1.view
/-- The scratch `arg9` the kernel carries between points, as a view: what it holds is stated through it. -/
abbrev VS0_2 : View sig .tc .vmem S1024x128 .i32 := scM0_2.view

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Carry

end
-- ==== Proof.Carry.Kernel.RunA.lean ====
/- The body of the kernel as printed at the first grid point: it normalises the queries, clears the two running
   scratches and scans the first tile of keys.
   Follows the generated module of the same place; the scratch of normalised queries (`arg7`), stored at the
   first point and read at every point, is carried here beside the running maximum and the running chunk. -/
module

public import proofs.«01_k».proof.Proof.Carry.Kernel.Runs

@[expose] public section

set_option maxRecDepth 16384

noncomputable section

namespace Cert.Kernel.Carry

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in each output's staging memref, as pieces (last first) IN CASE A (`scf.if` 0 taken, `scf.if` 1 not taken, `scf.if` 2 taken, `scf.if` 3 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (4, 5) at anything, handed back at some contents nothing names. -/
noncomputable def kernelRun0_A (c : Dev nD) (i : grid0.Coords) (arg1 : Memref sig .tc .vmem S1024x128 .f32) (harg1 : arg1.IsWhole) (arg2 : Memref sig .tc .vmem S2048x128 .f32) (harg2 : arg2.IsWhole) (arg3 : Memref sig .tc .smem S1 .f32) (harg3 : arg3.IsWhole) (arg4 : Memref sig .tc .smem S1 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .i32) (harg9 : arg9.IsWhole) (hc0 : cond0_0 i) (hc1 : ¬cond0_1 i) (hc2 : cond0_2 i) (hc3 : ¬cond0_3 i)
    (x0 : Vec F S1024x128 .f32) (x1 : Vec F S2048x128 .f32) (x2 : Vec F S1 .f32) (x3 : Vec F S1 .f32) :
    Σ' (LS0 : List (View.Piece (Elt F) S1024x128 .bf16)), Σ' (LS1 : List (View.Piece (Elt F) S1024x128 .f32)), { LS2 : List (View.Piece (Elt F) S1024x128 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__knn_body i arg1 harg1 arg2 harg2 arg3 harg3 arg4 harg4 arg5 harg5 arg6 harg6 arg7 harg7 arg8 harg8 arg9 harg9) K } := by
  refine ⟨?_, ?_, ?_, fun E K => ?run⟩
  case run =>
    simp only [cc0__knn_body_eq_skeleton]; unfold cc0__knn_body_skel
    simp only [k0_part3_eq_skeleton, k0_part4_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [HS0]; · iexists _; iexact HS0
    isplitl [HS1]; · iexists _; iexact HS1
    iexists _; iexact HS2

end Cert.Kernel.Carry

end
-- ==== Proof.Carry.Kernel.RunB.lean ====
/- The body of the kernel as printed at a point between the first and the last: it reads the normalised queries that the
   first point left and scans one whole tile of keys.
   Follows the generated module of the same place; the scratch of normalised queries (`arg7`), stored at the
   first point and read at every point, is carried here beside the running maximum and the running chunk. -/
module

public import proofs.«01_k».proof.Proof.Carry.Kernel.RunA

@[expose] public section

set_option maxRecDepth 16384

noncomputable section

namespace Cert.Kernel.Carry

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1200000 in
/-- What the body's stores leave in each output's staging memref, as pieces (last first) IN CASE B (`scf.if` 0 not taken, `scf.if` 1 not taken, `scf.if` 2 taken, `scf.if` 3 not taken: points 1, 2, … 47: 47 of 49), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (4, 5) at anything, handed back at some contents nothing names. -/
noncomputable def kernelRun0_B (c : Dev nD) (i : grid0.Coords) (arg1 : Memref sig .tc .vmem S1024x128 .f32) (harg1 : arg1.IsWhole) (arg2 : Memref sig .tc .vmem S2048x128 .f32) (harg2 : arg2.IsWhole) (arg3 : Memref sig .tc .smem S1 .f32) (harg3 : arg3.IsWhole) (arg4 : Memref sig .tc .smem S1 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .i32) (harg9 : arg9.IsWhole) (hc0 : ¬cond0_0 i) (hc1 : ¬cond0_1 i) (hc2 : cond0_2 i) (hc3 : ¬cond0_3 i)
    (x0 : Vec F S1024x128 .f32) (x1 : Vec F S2048x128 .f32) (x2 : Vec F S1 .f32) (x3 : Vec F S1 .f32) (xs0 : Vec F S1024x128 .bf16) (xs1 : Vec F S1024x128 .f32) (xs2 : Vec F S1024x128 .i32) :
    Σ' (LS0 : List (View.Piece (Elt F) S1024x128 .bf16)), Σ' (LS1 : List (View.Piece (Elt F) S1024x128 .f32)), { LS2 : List (View.Piece (Elt F) S1024x128 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs0 ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__knn_body i arg1 harg1 arg2 harg2 arg3 harg3 arg4 harg4 arg5 harg5 arg6 harg6 arg7 harg7 arg8 harg8 arg9 harg9) K } := by
  refine ⟨[], ?_, ?_, fun E K => ?run⟩
  case run =>
    simp only [cc0__knn_body_eq_skeleton]; unfold cc0__knn_body_skel
    simp only [k0_part3_eq_skeleton, k0_part4_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg7.eq_unread hfs0; obtain rfl := harg8.eq_unread hfs1; obtain rfl := harg9.eq_unread hfs2
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [HS0]
    · iexists _; isplitr; · ipureintro; exact harg7.read_unread _
      iexact HS0
    isplitl [HS1]; · iexists _; iexact HS1
    iexists _; iexact HS2

end Cert.Kernel.Carry

end
-- ==== Proof.Carry.Kernel.RunC.lean ====
/- The body of the kernel as printed at the last grid point: it scans the tile with the padding masked and writes both
   results.
   Follows the generated module of the same place; the scratch of normalised queries (`arg7`), stored at the
   first point and read at every point, is carried here beside the running maximum and the running chunk. -/
module

public import proofs.«01_k».proof.Proof.Carry.Kernel.RunB

@[expose] public section

set_option maxRecDepth 16384

noncomputable section

namespace Cert.Kernel.Carry

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1200000 in
/-- What the body's stores leave in each output's staging memref, as pieces (last first) IN CASE C (`scf.if` 0 not taken, `scf.if` 1 taken, `scf.if` 2 not taken, `scf.if` 3 taken: points 48), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (4, 5) at anything, handed back at some contents nothing names. -/
noncomputable def kernelRun0_C (c : Dev nD) (i : grid0.Coords) (arg1 : Memref sig .tc .vmem S1024x128 .f32) (harg1 : arg1.IsWhole) (arg2 : Memref sig .tc .vmem S2048x128 .f32) (harg2 : arg2.IsWhole) (arg3 : Memref sig .tc .smem S1 .f32) (harg3 : arg3.IsWhole) (arg4 : Memref sig .tc .smem S1 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .i32) (harg9 : arg9.IsWhole) (hc0 : ¬cond0_0 i) (hc1 : cond0_1 i) (hc2 : ¬cond0_2 i) (hc3 : cond0_3 i)
    (x0 : Vec F S1024x128 .f32) (x1 : Vec F S2048x128 .f32) (x2 : Vec F S1 .f32) (x3 : Vec F S1 .f32) (xs0 : Vec F S1024x128 .bf16) (xs1 : Vec F S1024x128 .f32) (xs2 : Vec F S1024x128 .i32) :
    Σ' (LS0 : List (View.Piece (Elt F) S1024x128 .bf16)), Σ' (LS1 : List (View.Piece (Elt F) S1024x128 .f32)), { LS2 : List (View.Piece (Elt F) S1024x128 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs0 ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__knn_body i arg1 harg1 arg2 harg2 arg3 harg3 arg4 harg4 arg5 harg5 arg6 harg6 arg7 harg7 arg8 harg8 arg9 harg9) K } := by
  refine ⟨[], ?_, ?_, fun E K => ?run⟩
  case run =>
    simp only [cc0__knn_body_eq_skeleton]; unfold cc0__knn_body_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg7.eq_unread hfs0; obtain rfl := harg8.eq_unread hfs1; obtain rfl := harg9.eq_unread hfs2
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _, _; isplitr; swap; · iexact H4
      ipureintro; rfl
    isplitl [H5]
    · iexists _, _; isplitr; swap; · iexact H5
      ipureintro; rfl
    isplitl [HS0]
    · iexists _; isplitr; · ipureintro; exact harg7.read_unread _
      iexact HS0
    isplitl [HS1]; · iexists _; iexact HS1
    iexists _; iexact HS2

end Cert.Kernel.Carry

end
-- ==== Proof.Carry.Kernel.Frame.lean ====
/- The frame of the kernel as printed: what the buffers hold point by point, the body's obligation, the run of the
   whole launch and the frame claim.
   Follows the generated module of the same place; the scratch of normalised queries (`arg7`), stored at the
   first point and read at every point, is carried here beside the running maximum and the running chunk. -/
module

public import proofs.«01_k».proof.Proof.Carry.Kernel.RunC
public import Idealize.ShloMosaic.Lib.Claim

@[expose] public section

set_option maxRecDepth 16384

noncomputable section

namespace Cert.Kernel.Carry

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg7`, which the kernel carries between points, cover it: 1 piece of `S1024x128` tiling it (Lib/Ring.lean `Piece.tiledL`). -/
theorem scover0_A_0 (c : Dev nD) (i : grid0.Coords) (arg1 : Memref sig .tc .vmem S1024x128 .f32) (harg1 : arg1.IsWhole) (arg2 : Memref sig .tc .vmem S2048x128 .f32) (harg2 : arg2.IsWhole) (arg3 : Memref sig .tc .smem S1 .f32) (harg3 : arg3.IsWhole) (arg4 : Memref sig .tc .smem S1 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .i32) (harg9 : arg9.IsWhole) (hc0 : cond0_0 i) (hc1 : ¬cond0_1 i) (hc2 : cond0_2 i) (hc3 : ¬cond0_3 i)
    (x0 : Vec F S1024x128 .f32) (x1 : Vec F S2048x128 .f32) (x2 : Vec F S1 .f32) (x3 : Vec F S1 .f32) (y : S1024x128.Idx) :
    ∃ pc ∈ (kernelRun0_A c i arg1 harg1 arg2 harg2 arg3 harg3 arg4 harg4 arg5 harg5 arg6 harg6 arg7 harg7 arg8 harg8 arg9 harg9 hc0 hc1 hc2 hc3 x0 x1 x2 x3).1, y ∈ pc.1.set :=
  View.cover_of_tiledL (kernelRun0_A c i arg1 harg1 arg2 harg2 arg3 harg3 arg4 harg4 arg5 harg5 arg6 harg6 arg7 harg7 arg8 harg8 arg9 harg9 hc0 hc1 hc2 hc3 x0 x1 x2 x3).1 S1024x128.size (by sl_kernel_rfl) y

/-- What case A leaves in scratch `arg7`: its pieces read back over junk. -/
def sout0_A_0 (c : Dev nD) (i : grid0.Coords) (arg1 : Memref sig .tc .vmem S1024x128 .f32) (harg1 : arg1.IsWhole) (arg2 : Memref sig .tc .vmem S2048x128 .f32) (harg2 : arg2.IsWhole) (arg3 : Memref sig .tc .smem S1 .f32) (harg3 : arg3.IsWhole) (arg4 : Memref sig .tc .smem S1 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .i32) (harg9 : arg9.IsWhole) (hc0 : cond0_0 i) (hc1 : ¬cond0_1 i) (hc2 : cond0_2 i) (hc3 : ¬cond0_3 i)
    (x0 : Vec F S1024x128 .f32) (x1 : Vec F S2048x128 .f32) (x2 : Vec F S1 .f32) (x3 : Vec F S1 .f32) : Vec F S1024x128 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 hc0 hc1 hc2 hc3 x0 x1 x2 x3).1)

/-- Case A's pieces for scratch `arg8`, which the kernel carries between points, cover it: 2 pieces of `S1024x128` tiling it (Lib/Ring.lean `Piece.tiledL`). -/
theorem scover0_A_1 (c : Dev nD) (i : grid0.Coords) (arg1 : Memref sig .tc .vmem S1024x128 .f32) (harg1 : arg1.IsWhole) (arg2 : Memref sig .tc .vmem S2048x128 .f32) (harg2 : arg2.IsWhole) (arg3 : Memref sig .tc .smem S1 .f32) (harg3 : arg3.IsWhole) (arg4 : Memref sig .tc .smem S1 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .i32) (harg9 : arg9.IsWhole) (hc0 : cond0_0 i) (hc1 : ¬cond0_1 i) (hc2 : cond0_2 i) (hc3 : ¬cond0_3 i)
    (x0 : Vec F S1024x128 .f32) (x1 : Vec F S2048x128 .f32) (x2 : Vec F S1 .f32) (x3 : Vec F S1 .f32) (y : S1024x128.Idx) :
    ∃ pc ∈ (kernelRun0_A c i arg1 harg1 arg2 harg2 arg3 harg3 arg4 harg4 arg5 harg5 arg6 harg6 arg7 harg7 arg8 harg8 arg9 harg9 hc0 hc1 hc2 hc3 x0 x1 x2 x3).2.1, y ∈ pc.1.set :=
  View.cover_of_tiledL (kernelRun0_A c i arg1 harg1 arg2 harg2 arg3 harg3 arg4 harg4 arg5 harg5 arg6 harg6 arg7 harg7 arg8 harg8 arg9 harg9 hc0 hc1 hc2 hc3 x0 x1 x2 x3).2.1 S1024x128.size (by sl_kernel_rfl) y

/-- What case A leaves in scratch `arg8`: its pieces read back over junk. -/
def sout0_A_1 (c : Dev nD) (i : grid0.Coords) (arg1 : Memref sig .tc .vmem S1024x128 .f32) (harg1 : arg1.IsWhole) (arg2 : Memref sig .tc .vmem S2048x128 .f32) (harg2 : arg2.IsWhole) (arg3 : Memref sig .tc .smem S1 .f32) (harg3 : arg3.IsWhole) (arg4 : Memref sig .tc .smem S1 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .i32) (harg9 : arg9.IsWhole) (hc0 : cond0_0 i) (hc1 : ¬cond0_1 i) (hc2 : cond0_2 i) (hc3 : ¬cond0_3 i)
    (x0 : Vec F S1024x128 .f32) (x1 : Vec F S2048x128 .f32) (x2 : Vec F S1 .f32) (x3 : Vec F S1 .f32) : Vec F S1024x128 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 hc0 hc1 hc2 hc3 x0 x1 x2 x3).2.1)

/-- Case A's pieces for scratch `arg9`, which the kernel carries between points, cover it: 2 pieces of `S1024x128` tiling it (Lib/Ring.lean `Piece.tiledL`). -/
theorem scover0_A_2 (c : Dev nD) (i : grid0.Coords) (arg1 : Memref sig .tc .vmem S1024x128 .f32) (harg1 : arg1.IsWhole) (arg2 : Memref sig .tc .vmem S2048x128 .f32) (harg2 : arg2.IsWhole) (arg3 : Memref sig .tc .smem S1 .f32) (harg3 : arg3.IsWhole) (arg4 : Memref sig .tc .smem S1 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .i32) (harg9 : arg9.IsWhole) (hc0 : cond0_0 i) (hc1 : ¬cond0_1 i) (hc2 : cond0_2 i) (hc3 : ¬cond0_3 i)
    (x0 : Vec F S1024x128 .f32) (x1 : Vec F S2048x128 .f32) (x2 : Vec F S1 .f32) (x3 : Vec F S1 .f32) (y : S1024x128.Idx) :
    ∃ pc ∈ (kernelRun0_A c i arg1 harg1 arg2 harg2 arg3 harg3 arg4 harg4 arg5 harg5 arg6 harg6 arg7 harg7 arg8 harg8 arg9 harg9 hc0 hc1 hc2 hc3 x0 x1 x2 x3).2.2.1, y ∈ pc.1.set :=
  View.cover_of_tiledL (kernelRun0_A c i arg1 harg1 arg2 harg2 arg3 harg3 arg4 harg4 arg5 harg5 arg6 harg6 arg7 harg7 arg8 harg8 arg9 harg9 hc0 hc1 hc2 hc3 x0 x1 x2 x3).2.2.1 S1024x128.size (by sl_kernel_rfl) y

/-- What case A leaves in scratch `arg9`: its pieces read back over junk. -/
def sout0_A_2 (c : Dev nD) (i : grid0.Coords) (arg1 : Memref sig .tc .vmem S1024x128 .f32) (harg1 : arg1.IsWhole) (arg2 : Memref sig .tc .vmem S2048x128 .f32) (harg2 : arg2.IsWhole) (arg3 : Memref sig .tc .smem S1 .f32) (harg3 : arg3.IsWhole) (arg4 : Memref sig .tc .smem S1 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .i32) (harg9 : arg9.IsWhole) (hc0 : cond0_0 i) (hc1 : ¬cond0_1 i) (hc2 : cond0_2 i) (hc3 : ¬cond0_3 i)
    (x0 : Vec F S1024x128 .f32) (x1 : Vec F S2048x128 .f32) (x2 : Vec F S1 .f32) (x3 : Vec F S1 .f32) : Vec F S1024x128 .i32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 hc0 hc1 hc2 hc3 x0 x1 x2 x3).2.2.1)

/-- Case B stores nothing into scratch `arg7`: it holds what the point before left. -/
def sout0_B_0 (c : Dev nD) (i : grid0.Coords) (arg1 : Memref sig .tc .vmem S1024x128 .f32) (harg1 : arg1.IsWhole) (arg2 : Memref sig .tc .vmem S2048x128 .f32) (harg2 : arg2.IsWhole) (arg3 : Memref sig .tc .smem S1 .f32) (harg3 : arg3.IsWhole) (arg4 : Memref sig .tc .smem S1 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .i32) (harg9 : arg9.IsWhole) (hc0 : ¬cond0_0 i) (hc1 : ¬cond0_1 i) (hc2 : cond0_2 i) (hc3 : ¬cond0_3 i)
    (x0 : Vec F S1024x128 .f32) (x1 : Vec F S2048x128 .f32) (x2 : Vec F S1 .f32) (x3 : Vec F S1 .f32) (xs0 : Vec F S1024x128 .bf16) (xs1 : Vec F S1024x128 .f32) (xs2 : Vec F S1024x128 .i32) : Vec F S1024x128 .bf16 := xs0

/-- Case B's pieces for scratch `arg8`, which the kernel carries between points, cover it: 1 piece of `S1024x128` tiling it (Lib/Ring.lean `Piece.tiledL`). -/
theorem scover0_B_1 (c : Dev nD) (i : grid0.Coords) (arg1 : Memref sig .tc .vmem S1024x128 .f32) (harg1 : arg1.IsWhole) (arg2 : Memref sig .tc .vmem S2048x128 .f32) (harg2 : arg2.IsWhole) (arg3 : Memref sig .tc .smem S1 .f32) (harg3 : arg3.IsWhole) (arg4 : Memref sig .tc .smem S1 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .i32) (harg9 : arg9.IsWhole) (hc0 : ¬cond0_0 i) (hc1 : ¬cond0_1 i) (hc2 : cond0_2 i) (hc3 : ¬cond0_3 i)
    (x0 : Vec F S1024x128 .f32) (x1 : Vec F S2048x128 .f32) (x2 : Vec F S1 .f32) (x3 : Vec F S1 .f32) (xs0 : Vec F S1024x128 .bf16) (xs1 : Vec F S1024x128 .f32) (xs2 : Vec F S1024x128 .i32) (y : S1024x128.Idx) :
    ∃ pc ∈ (kernelRun0_B c i arg1 harg1 arg2 harg2 arg3 harg3 arg4 harg4 arg5 harg5 arg6 harg6 arg7 harg7 arg8 harg8 arg9 harg9 hc0 hc1 hc2 hc3 x0 x1 x2 x3 xs0 xs1 xs2).2.1, y ∈ pc.1.set :=
  View.cover_of_tiledL (kernelRun0_B c i arg1 harg1 arg2 harg2 arg3 harg3 arg4 harg4 arg5 harg5 arg6 harg6 arg7 harg7 arg8 harg8 arg9 harg9 hc0 hc1 hc2 hc3 x0 x1 x2 x3 xs0 xs1 xs2).2.1 S1024x128.size (by sl_kernel_rfl) y

/-- What case B leaves in scratch `arg8`: its pieces read back over junk. -/
def sout0_B_1 (c : Dev nD) (i : grid0.Coords) (arg1 : Memref sig .tc .vmem S1024x128 .f32) (harg1 : arg1.IsWhole) (arg2 : Memref sig .tc .vmem S2048x128 .f32) (harg2 : arg2.IsWhole) (arg3 : Memref sig .tc .smem S1 .f32) (harg3 : arg3.IsWhole) (arg4 : Memref sig .tc .smem S1 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .i32) (harg9 : arg9.IsWhole) (hc0 : ¬cond0_0 i) (hc1 : ¬cond0_1 i) (hc2 : cond0_2 i) (hc3 : ¬cond0_3 i)
    (x0 : Vec F S1024x128 .f32) (x1 : Vec F S2048x128 .f32) (x2 : Vec F S1 .f32) (x3 : Vec F S1 .f32) (xs0 : Vec F S1024x128 .bf16) (xs1 : Vec F S1024x128 .f32) (xs2 : Vec F S1024x128 .i32) : Vec F S1024x128 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 hc0 hc1 hc2 hc3 x0 x1 x2 x3 xs0 xs1 xs2).2.1)

/-- Case B's pieces for scratch `arg9`, which the kernel carries between points, cover it: 1 piece of `S1024x128` tiling it (Lib/Ring.lean `Piece.tiledL`). -/
theorem scover0_B_2 (c : Dev nD) (i : grid0.Coords) (arg1 : Memref sig .tc .vmem S1024x128 .f32) (harg1 : arg1.IsWhole) (arg2 : Memref sig .tc .vmem S2048x128 .f32) (harg2 : arg2.IsWhole) (arg3 : Memref sig .tc .smem S1 .f32) (harg3 : arg3.IsWhole) (arg4 : Memref sig .tc .smem S1 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .i32) (harg9 : arg9.IsWhole) (hc0 : ¬cond0_0 i) (hc1 : ¬cond0_1 i) (hc2 : cond0_2 i) (hc3 : ¬cond0_3 i)
    (x0 : Vec F S1024x128 .f32) (x1 : Vec F S2048x128 .f32) (x2 : Vec F S1 .f32) (x3 : Vec F S1 .f32) (xs0 : Vec F S1024x128 .bf16) (xs1 : Vec F S1024x128 .f32) (xs2 : Vec F S1024x128 .i32) (y : S1024x128.Idx) :
    ∃ pc ∈ (kernelRun0_B c i arg1 harg1 arg2 harg2 arg3 harg3 arg4 harg4 arg5 harg5 arg6 harg6 arg7 harg7 arg8 harg8 arg9 harg9 hc0 hc1 hc2 hc3 x0 x1 x2 x3 xs0 xs1 xs2).2.2.1, y ∈ pc.1.set :=
  View.cover_of_tiledL (kernelRun0_B c i arg1 harg1 arg2 harg2 arg3 harg3 arg4 harg4 arg5 harg5 arg6 harg6 arg7 harg7 arg8 harg8 arg9 harg9 hc0 hc1 hc2 hc3 x0 x1 x2 x3 xs0 xs1 xs2).2.2.1 S1024x128.size (by sl_kernel_rfl) y

/-- What case B leaves in scratch `arg9`: its pieces read back over junk. -/
def sout0_B_2 (c : Dev nD) (i : grid0.Coords) (arg1 : Memref sig .tc .vmem S1024x128 .f32) (harg1 : arg1.IsWhole) (arg2 : Memref sig .tc .vmem S2048x128 .f32) (harg2 : arg2.IsWhole) (arg3 : Memref sig .tc .smem S1 .f32) (harg3 : arg3.IsWhole) (arg4 : Memref sig .tc .smem S1 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .i32) (harg9 : arg9.IsWhole) (hc0 : ¬cond0_0 i) (hc1 : ¬cond0_1 i) (hc2 : cond0_2 i) (hc3 : ¬cond0_3 i)
    (x0 : Vec F S1024x128 .f32) (x1 : Vec F S2048x128 .f32) (x2 : Vec F S1 .f32) (x3 : Vec F S1 .f32) (xs0 : Vec F S1024x128 .bf16) (xs1 : Vec F S1024x128 .f32) (xs2 : Vec F S1024x128 .i32) : Vec F S1024x128 .i32 :=
  VS0_2.read (Elt F) (VS0_2.writes (Elt F) VS0_2.junk (kernelRun0_B c i arg1 harg1 arg2 harg2 arg3 harg3 arg4 harg4 arg5 harg5 arg6 harg6 arg7 harg7 arg8 harg8 arg9 harg9 hc0 hc1 hc2 hc3 x0 x1 x2 x3 xs0 xs1 xs2).2.2.1)

/-- Case C stores nothing into scratch `arg7`: it holds what the point before left. -/
def sout0_C_0 (c : Dev nD) (i : grid0.Coords) (arg1 : Memref sig .tc .vmem S1024x128 .f32) (harg1 : arg1.IsWhole) (arg2 : Memref sig .tc .vmem S2048x128 .f32) (harg2 : arg2.IsWhole) (arg3 : Memref sig .tc .smem S1 .f32) (harg3 : arg3.IsWhole) (arg4 : Memref sig .tc .smem S1 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .i32) (harg9 : arg9.IsWhole) (hc0 : ¬cond0_0 i) (hc1 : cond0_1 i) (hc2 : ¬cond0_2 i) (hc3 : cond0_3 i)
    (x0 : Vec F S1024x128 .f32) (x1 : Vec F S2048x128 .f32) (x2 : Vec F S1 .f32) (x3 : Vec F S1 .f32) (xs0 : Vec F S1024x128 .bf16) (xs1 : Vec F S1024x128 .f32) (xs2 : Vec F S1024x128 .i32) : Vec F S1024x128 .bf16 := xs0

/-- Case C's pieces for scratch `arg8`, which the kernel carries between points, cover it: 1 piece of `S1024x128` tiling it (Lib/Ring.lean `Piece.tiledL`). -/
theorem scover0_C_1 (c : Dev nD) (i : grid0.Coords) (arg1 : Memref sig .tc .vmem S1024x128 .f32) (harg1 : arg1.IsWhole) (arg2 : Memref sig .tc .vmem S2048x128 .f32) (harg2 : arg2.IsWhole) (arg3 : Memref sig .tc .smem S1 .f32) (harg3 : arg3.IsWhole) (arg4 : Memref sig .tc .smem S1 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .i32) (harg9 : arg9.IsWhole) (hc0 : ¬cond0_0 i) (hc1 : cond0_1 i) (hc2 : ¬cond0_2 i) (hc3 : cond0_3 i)
    (x0 : Vec F S1024x128 .f32) (x1 : Vec F S2048x128 .f32) (x2 : Vec F S1 .f32) (x3 : Vec F S1 .f32) (xs0 : Vec F S1024x128 .bf16) (xs1 : Vec F S1024x128 .f32) (xs2 : Vec F S1024x128 .i32) (y : S1024x128.Idx) :
    ∃ pc ∈ (kernelRun0_C c i arg1 harg1 arg2 harg2 arg3 harg3 arg4 harg4 arg5 harg5 arg6 harg6 arg7 harg7 arg8 harg8 arg9 harg9 hc0 hc1 hc2 hc3 x0 x1 x2 x3 xs0 xs1 xs2).2.1, y ∈ pc.1.set :=
  View.cover_of_tiledL (kernelRun0_C c i arg1 harg1 arg2 harg2 arg3 harg3 arg4 harg4 arg5 harg5 arg6 harg6 arg7 harg7 arg8 harg8 arg9 harg9 hc0 hc1 hc2 hc3 x0 x1 x2 x3 xs0 xs1 xs2).2.1 S1024x128.size (by sl_kernel_rfl) y

/-- What case C leaves in scratch `arg8`: its pieces read back over junk. -/
def sout0_C_1 (c : Dev nD) (i : grid0.Coords) (arg1 : Memref sig .tc .vmem S1024x128 .f32) (harg1 : arg1.IsWhole) (arg2 : Memref sig .tc .vmem S2048x128 .f32) (harg2 : arg2.IsWhole) (arg3 : Memref sig .tc .smem S1 .f32) (harg3 : arg3.IsWhole) (arg4 : Memref sig .tc .smem S1 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .i32) (harg9 : arg9.IsWhole) (hc0 : ¬cond0_0 i) (hc1 : cond0_1 i) (hc2 : ¬cond0_2 i) (hc3 : cond0_3 i)
    (x0 : Vec F S1024x128 .f32) (x1 : Vec F S2048x128 .f32) (x2 : Vec F S1 .f32) (x3 : Vec F S1 .f32) (xs0 : Vec F S1024x128 .bf16) (xs1 : Vec F S1024x128 .f32) (xs2 : Vec F S1024x128 .i32) : Vec F S1024x128 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 hc0 hc1 hc2 hc3 x0 x1 x2 x3 xs0 xs1 xs2).2.1)

/-- Case C's pieces for scratch `arg9`, which the kernel carries between points, cover it: 1 piece of `S1024x128` tiling it (Lib/Ring.lean `Piece.tiledL`). -/
theorem scover0_C_2 (c : Dev nD) (i : grid0.Coords) (arg1 : Memref sig .tc .vmem S1024x128 .f32) (harg1 : arg1.IsWhole) (arg2 : Memref sig .tc .vmem S2048x128 .f32) (harg2 : arg2.IsWhole) (arg3 : Memref sig .tc .smem S1 .f32) (harg3 : arg3.IsWhole) (arg4 : Memref sig .tc .smem S1 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .i32) (harg9 : arg9.IsWhole) (hc0 : ¬cond0_0 i) (hc1 : cond0_1 i) (hc2 : ¬cond0_2 i) (hc3 : cond0_3 i)
    (x0 : Vec F S1024x128 .f32) (x1 : Vec F S2048x128 .f32) (x2 : Vec F S1 .f32) (x3 : Vec F S1 .f32) (xs0 : Vec F S1024x128 .bf16) (xs1 : Vec F S1024x128 .f32) (xs2 : Vec F S1024x128 .i32) (y : S1024x128.Idx) :
    ∃ pc ∈ (kernelRun0_C c i arg1 harg1 arg2 harg2 arg3 harg3 arg4 harg4 arg5 harg5 arg6 harg6 arg7 harg7 arg8 harg8 arg9 harg9 hc0 hc1 hc2 hc3 x0 x1 x2 x3 xs0 xs1 xs2).2.2.1, y ∈ pc.1.set :=
  View.cover_of_tiledL (kernelRun0_C c i arg1 harg1 arg2 harg2 arg3 harg3 arg4 harg4 arg5 harg5 arg6 harg6 arg7 harg7 arg8 harg8 arg9 harg9 hc0 hc1 hc2 hc3 x0 x1 x2 x3 xs0 xs1 xs2).2.2.1 S1024x128.size (by sl_kernel_rfl) y

/-- What case C leaves in scratch `arg9`: its pieces read back over junk. -/
def sout0_C_2 (c : Dev nD) (i : grid0.Coords) (arg1 : Memref sig .tc .vmem S1024x128 .f32) (harg1 : arg1.IsWhole) (arg2 : Memref sig .tc .vmem S2048x128 .f32) (harg2 : arg2.IsWhole) (arg3 : Memref sig .tc .smem S1 .f32) (harg3 : arg3.IsWhole) (arg4 : Memref sig .tc .smem S1 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .i32) (harg9 : arg9.IsWhole) (hc0 : ¬cond0_0 i) (hc1 : cond0_1 i) (hc2 : ¬cond0_2 i) (hc3 : cond0_3 i)
    (x0 : Vec F S1024x128 .f32) (x1 : Vec F S2048x128 .f32) (x2 : Vec F S1 .f32) (x3 : Vec F S1 .f32) (xs0 : Vec F S1024x128 .bf16) (xs1 : Vec F S1024x128 .f32) (xs2 : Vec F S1024x128 .i32) : Vec F S1024x128 .i32 :=
  VS0_2.read (Elt F) (VS0_2.writes (Elt F) VS0_2.junk (kernelRun0_C c i arg1 harg1 arg2 harg2 arg3 harg3 arg4 harg4 arg5 harg5 arg6 harg6 arg7 harg7 arg8 harg8 arg9 harg9 hc0 hc1 hc2 hc3 x0 x1 x2 x3 xs0 xs1 xs2).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1024x128 .bf16 × Vec F S1024x128 .f32 × Vec F S1024x128 .i32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) ((hcond0_2 ⟨0, hn⟩).mpr (by (try dsimp only); omega)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) ((hcond0_2 ⟨0, hn⟩).mpr (by (try dsimp only); omega)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) ((hcond0_2 ⟨0, hn⟩).mpr (by (try dsimp only); omega)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 49 = 0 then
      if h1 : (n + 1) % 49 = 48 then
        False.elim (by have hN : n + 1 < 49 := lt_of_lt_of_eq hn (show cfg0.N = 49 from N_0); omega)
      else
        if h2 : (n + 1) < 48 then
          if h3 : (n + 1) % 49 = 48 then
            False.elim (by have hN : n + 1 < 49 := lt_of_lt_of_eq hn (show cfg0.N = 49 from N_0); omega)
          else
            (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩))
        else
          False.elim (by have hN : n + 1 < 49 := lt_of_lt_of_eq hn (show cfg0.N = 49 from N_0); omega)
    else
      if h1 : (n + 1) % 49 = 48 then
        if h2 : (n + 1) < 48 then
          False.elim (by have hN : n + 1 < 49 := lt_of_lt_of_eq hn (show cfg0.N = 49 from N_0); omega)
        else
          if h3 : (n + 1) % 49 = 48 then
            (sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2)
          else
            False.elim (by have hN : n + 1 < 49 := lt_of_lt_of_eq hn (show cfg0.N = 49 from N_0); omega)
      else
        if h2 : (n + 1) < 48 then
          if h3 : (n + 1) % 49 = 48 then
            False.elim (by have hN : n + 1 < 49 := lt_of_lt_of_eq hn (show cfg0.N = 49 from N_0); omega)
          else
            (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2.1 (outsAt0 c n (Nat.lt_of_succ_lt hn)).2.2)
        else
          False.elim (by have hN : n + 1 < 49 := lt_of_lt_of_eq hn (show cfg0.N = 49 from N_0); omega)

/-- `outsAt0` at a point of case A: that case's contents. -/
theorem outsAt0_A (c : Dev nD) (t : Fin cfg0.N) (h0 : t.val % 49 = 0) (h1 : ¬t.val % 49 = 48) (h2 : t.val < 48) (h3 : ¬t.val % 49 = 48) :
    outsAt0 m c t.val t.isLt = (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t)) := by
  obtain ⟨n, hn⟩ := t
  cases n with
  | zero => exact rfl
  | succ n => exact (dif_pos h0).trans ((dif_neg h1).trans ((dif_pos h2).trans ((dif_neg h3).trans rfl)))

/-- `outsAt0` at a point of case B: that case's contents, over what the point before left. -/
theorem outsAt0_B (c : Dev nD) (t : Fin cfg0.N) (h0 : ¬t.val % 49 = 0) (h1 : ¬t.val % 49 = 48) (h2 : t.val < 48) (h3 : ¬t.val % 49 = 48) :
    outsAt0 m c t.val t.isLt = (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans rfl)))

/-- `outsAt0` at a point of case C: that case's contents, over what the point before left. -/
theorem outsAt0_C (c : Dev nD) (t : Fin cfg0.N) (h0 : ¬t.val % 49 = 0) (h1 : t.val % 49 = 48) (h2 : ¬t.val < 48) (h3 : t.val % 49 = 48) :
    outsAt0 m c t.val t.isLt = (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans ((dif_neg h2).trans ((dif_pos h3).trans rfl)))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).1) ∗ owns (c : Thread nD τ) scM0_1 fullShare ((outsAt0 m c n hn).2.1) ∗ owns (c : Thread nD τ) scM0_2 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).1) ∗ owns (c : Thread nD τ) scM0_1 fullShare ((outsAt0 m c n hn).2.1) ∗ owns (c : Thread nD τ) scM0_2 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).1) ∗ owns (c : Thread nD τ) scM0_1 fullShare ((outsAt0 m c (n - 1) (by omega)).2.1) ∗ owns (c : Thread nD τ) scM0_2 fullShare ((outsAt0 m c (n - 1) (by omega)).2.2)) ∗ (∃ r, prngReg c r)) := by
  cases n with
  | zero => exact absurd rfl hz
  | succ n => rfl

/-! ## The pipeline's proof data -/

/-- The output windows this certificate FORGETS (4, 5): nothing reads what the kernel leaves in them, so nothing
    of it is named (Lib/Pipeline/Dat.lean `Dat.toRForget`). -/
def forgets0 : Fin 6 → Bool := fun w => w.val == 4 || w.val == 5

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d)
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (∃ d, owns (c : Thread nD τ) (ms0_4 t) fullShare d)
    ∗ (∃ d, owns (c : Thread nD τ) (ms0_5 t) fullShare d))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 49 := lt_of_lt_of_eq t.isLt (show cfg0.N = 49 from N_0)
  by_cases h0 : t.val % 49 = 0
  · by_cases h1 : t.val % 49 = 48
    · exfalso; omega
    · by_cases h2 : t.val < 48
      · by_cases h3 : t.val % 49 = 48
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          by_cases hz : t.val = 0
          · rw [PhiS_castSucc m c t, PhiS_zero m c _ _ hz, PhiA0_eq]
            rw [outsAt0_A m c t h0 h1 h2 h3]
            unfold sout0_A_0 sout0_A_1 sout0_A_2; (try dsimp only)
            iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
            iapply ((kernelRun0_A c (grid0.coords t) _ _ _ _ _ _ _ _ _ _ _ _ _ _ _ _ _ _ ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t)).2.2.2 Set.univ _)
            isplitl [H0]; · iexact H0
            isplitl [H1]; · iexact H1
            isplitl [H2]; · iexact H2
            isplitl [H3]; · iexact H3
            isplitl [H4]; · iexists _; iexact H4
            isplitl [H5]; · iexists _; iexact H5
            isplitl [HS0]; · iexact HS0
            isplitl [HS1]; · iexact HS1
            isplitl [HS2]; · iexact HS2
            iintro ⟨H0, H1, H2, H3, H4, H5, ⟨%es0, HS0⟩, ⟨%es1, HS1⟩, ⟨%es2, HS2⟩⟩
            isplitl [HS0 HS1 HS2 Hg]
            · isplitl [HS0 HS1 HS2]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover0_A_1 c _ _ _ _ _ _ _ _ _ _ _ _ _ _ _ _ _ _ _ _ _ _ _ _ _ _ _)
                unfold owns; iexists _; isplitr
                swap; · iexact HS2
                ipureintro; exact View.read_writes_of_cover _ _ _ _ _ (scover0_A_2 c _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            iexact H5
          · exfalso; have hN : t.val < 49 := lt_of_lt_of_eq t.isLt (show cfg0.N = 49 from N_0); omega
      · exfalso; omega
  · by_cases h1 : t.val % 49 = 48
    · by_cases h2 : t.val < 48
      · exfalso; omega
      · by_cases h3 : t.val % 49 = 48
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          by_cases hz : t.val = 0
          · exfalso; have hN : t.val < 49 := lt_of_lt_of_eq t.isLt (show cfg0.N = 49 from N_0); omega
          · rw [PhiS_castSucc m c t, PhiS_pos m c _ _ hz]
            rw [outsAt0_C m c t h0 h1 h2 h3]
            unfold sout0_C_0 sout0_C_1 sout0_C_2; (try dsimp only)
            iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
            iapply ((kernelRun0_C c (grid0.coords t) _ _ _ _ _ _ _ _ _ _ _ _ _ _ _ _ _ _ (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) _ _ _).2.2.2 Set.univ _)
            isplitl [H0]; · iexact H0
            isplitl [H1]; · iexact H1
            isplitl [H2]; · iexact H2
            isplitl [H3]; · iexact H3
            isplitl [H4]; · iexists _; iexact H4
            isplitl [H5]; · iexists _; iexact H5
            isplitl [HS0]; · iexact HS0
            isplitl [HS1]; · iexact HS1
            isplitl [HS2]; · iexact HS2
            iintro ⟨H0, H1, H2, H3, H4, H5, HS0, ⟨%es1, HS1⟩, ⟨%es2, HS2⟩⟩
            isplitl [HS0 HS1 HS2 Hg]
            · isplitl [HS0 HS1 HS2]
              · isplitl [HS0]
                · iexact HS0
                isplitl [HS1]
                · unfold owns; iexists _; isplitr
                  swap; · iexact HS1
                  ipureintro; exact View.read_writes_of_cover _ _ _ _ _ (scover0_C_1 c _ _ _ _ _ _ _ _ _ _ _ _ _ _ _ _ _ _ _ _ _ _ _ _ _ _ _ _ _ _)
                unfold owns; iexists _; isplitr
                swap; · iexact HS2
                ipureintro; exact View.read_writes_of_cover _ _ _ _ _ (scover0_C_2 c _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            iexact H5
        · exfalso; omega
    · by_cases h2 : t.val < 48
      · by_cases h3 : t.val % 49 = 48
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          by_cases hz : t.val = 0
          · exfalso; have hN : t.val < 49 := lt_of_lt_of_eq t.isLt (show cfg0.N = 49 from N_0); omega
          · rw [PhiS_castSucc m c t, PhiS_pos m c _ _ hz]
            rw [outsAt0_B m c t h0 h1 h2 h3]
            unfold sout0_B_0 sout0_B_1 sout0_B_2; (try dsimp only)
            iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
            iapply ((kernelRun0_B c (grid0.coords t) _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) _ _ _).2.2.2 Set.univ _)
            isplitl [H0]; · iexact H0
            isplitl [H1]; · iexact H1
            isplitl [H2]; · iexact H2
            isplitl [H3]; · iexact H3
            isplitl [H4]; · iexists _; iexact H4
            isplitl [H5]; · iexists _; iexact H5
            isplitl [HS0]; · iexact HS0
            isplitl [HS1]; · iexact HS1
            isplitl [HS2]; · iexact HS2
            iintro ⟨H0, H1, H2, H3, H4, H5, HS0, ⟨%es1, HS1⟩, ⟨%es2, HS2⟩⟩
            isplitl [HS0 HS1 HS2 Hg]
            · isplitl [HS0 HS1 HS2]
              · isplitl [HS0]
                · iexact HS0
                isplitl [HS1]
                · unfold owns; iexists _; isplitr
                  swap; · iexact HS1
                  ipureintro; exact View.read_writes_of_cover _ _ _ _ _ (scover0_B_1 c _ _ _ _ _ _ _ _ _ _ _ _ _ _ _ _ _ _ _ _ _ _ _ _ _ _ _ _ _ _)
                unfold owns; iexists _; isplitr
                swap; · iexact HS2
                ipureintro; exact View.read_writes_of_cover _ _ _ _ _ (scover0_B_2 c _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexact H4
            iexact H5
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 49 := N_0; omega)

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 4, 5) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (fun c => (dats m 0 c).toRForget forgets0) (A_eq m) (run_main m ρ)

/-- THE FRAME: `Cert.quiescent_Kernel`'s statement (Defs.lean) at any `F` — Proof.lean cites it at `Bits`: -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.Kernel.Carry

end
-- ==== Proof.Carry.KernelIdeal.Runs.lean ====
/- What the three runs of the idealized kernel's body share: the launch kit, the grid conditions in closed form,
   the blocks the pipeline hands the body, with all three scratch operands carried from point to point.
   Follows the generated module of the same place; the scratch of normalised queries (`arg7`), stored at the
   first point and read at every point, is carried here beside the running maximum and the running chunk. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Carry

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`. -/
abbrev V (c : Dev nD) (b : Ref sig .tc) : Buf (Elt F) ((c : Thread nD τ).loc b) :=
  StableHlo.after (List.flatten [hostOps0, hostOps0_1]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c),
      ((h c).1 2).trans (((dats 0 c).arrAt_in 2 rfl _).trans ((hA c 2).trans (V_main_arg2 m c))),
      ((h c).1 3).trans (((dats 0 c).arrAt_in 3 rfl _).trans ((hA c 3).trans (V_main_arg3 m c)))⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 49 = 0 :=
  (fun t => by
    have ht : t.val < 49 := Nat.lt_of_lt_of_eq t.isLt N_0
    have e0 : (grid0.coords t 0).val = t.val / 1 % 49 := Pipeline.Grid.coords_val t 0 (by decide) rfl
    simp only [cond0_0, e0]
    word_cmp
   : ∀ t : Fin grid0.N, cond0_0 (grid0.coords t) ↔ t.val % 49 = 0)

/-- The condition of the body's `scf.if` 1 (`k0_h2`), from the grid coordinates (the skeleton's scalar
    chain substituted). -/
abbrev cond0_1 (i : grid0.Coords) : Prop := (Scalar.cmpi .ne (Scalar.extui (Scalar.cmpi .eq (BitVec.ofNat 32 (i 0).val) 48#32)) 0#32) = 1#1
/-- It holds at the last point only — by arithmetic of the point. -/
theorem hcond0_1 : ∀ t : Fin cfg0.N, cond0_1 (grid0.coords t) ↔ t.val % 49 = 48 :=
  (fun t => by
    have ht : t.val < 49 := Nat.lt_of_lt_of_eq t.isLt N_0
    have e0 : (grid0.coords t 0).val = t.val / 1 % 49 := Pipeline.Grid.coords_val t 0 (by decide) rfl
    simp only [cond0_1, e0]
    word_cmp
   : ∀ t : Fin grid0.N, cond0_1 (grid0.coords t) ↔ t.val % 49 = 48)

/-- The condition of the body's `scf.if` 2 (`k0_h3`), from the grid coordinates (the skeleton's scalar
    chain substituted). -/
abbrev cond0_2 (i : grid0.Coords) : Prop := (Scalar.cmpi .ne (Scalar.extui (Scalar.cmpi .ne (BitVec.ofNat 32 (i 0).val) 48#32)) 0#32) = 1#1
/-- It holds at the points before point 48 — by arithmetic of the point. -/
theorem hcond0_2 : ∀ t : Fin cfg0.N, cond0_2 (grid0.coords t) ↔ t.val < 48 :=
  (fun t => by
    have ht : t.val < 49 := Nat.lt_of_lt_of_eq t.isLt N_0
    have e0 : (grid0.coords t 0).val = t.val / 1 % 49 := Pipeline.Grid.coords_val t 0 (by decide) rfl
    simp only [cond0_2, e0]
    word_cmp
   : ∀ t : Fin grid0.N, cond0_2 (grid0.coords t) ↔ t.val < 48)

/-- The condition of the body's `scf.if` 3 (`k0_h4`), from the grid coordinates (the skeleton's scalar
    chain substituted). -/
abbrev cond0_3 (i : grid0.Coords) : Prop := k0_cond4 i = 1#1
/-- It holds at the last point only — by arithmetic of the point. -/
theorem hcond0_3 : ∀ t : Fin cfg0.N, cond0_3 (grid0.coords t) ↔ t.val % 49 = 48 :=
  (fun t => by
    have ht : t.val < 49 := Nat.lt_of_lt_of_eq t.isLt N_0
    have e0 : (grid0.coords t 0).val = t.val / 1 % 49 := Pipeline.Grid.coords_val t 0 (by decide) rfl
    simp only [cond0_3, k0_cond4, e0]
    word_cmp
   : ∀ t : Fin grid0.N, cond0_3 (grid0.coords t) ↔ t.val % 49 = 48)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! A case with many branch conditions on the grid states them as ONE proposition, its `Decidable` instance assembled
one condition at a time: the facts below about that case's points are decided under it and restated with one premise
per condition, so that the instance `decide` searches for does not grow with their number. -/

/-- Case A's branch conditions on the grid, as one proposition. -/
abbrev conds0_A (i : grid0.Coords) : Prop := cond0_0 i ∧ ¬cond0_1 i ∧ cond0_2 i ∧ ¬cond0_3 i
instance conds0_A.dec (i : grid0.Coords) : Decidable (conds0_A i) :=
  @instDecidableAnd _ _ inferInstance (@instDecidableAnd _ _ inferInstance (@instDecidableAnd _ _ inferInstance inferInstance))
/-- Case B's branch conditions on the grid, as one proposition. -/
abbrev conds0_B (i : grid0.Coords) : Prop := ¬cond0_0 i ∧ ¬cond0_1 i ∧ cond0_2 i ∧ ¬cond0_3 i
instance conds0_B.dec (i : grid0.Coords) : Decidable (conds0_B i) :=
  @instDecidableAnd _ _ inferInstance (@instDecidableAnd _ _ inferInstance (@instDecidableAnd _ _ inferInstance inferInstance))
/-- Case C's branch conditions on the grid, as one proposition. -/
abbrev conds0_C (i : grid0.Coords) : Prop := ¬cond0_0 i ∧ cond0_1 i ∧ ¬cond0_2 i ∧ cond0_3 i
instance conds0_C.dec (i : grid0.Coords) : Decidable (conds0_C i) :=
  @instDecidableAnd _ _ inferInstance (@instDecidableAnd _ _ inferInstance (@instDecidableAnd _ _ inferInstance inferInstance))
/-- At the points of case A the printed configuration (`Cfg.idle`) calls output 4 idle: the case stores nothing into it. -/
theorem idleAt0_4_A : ∀ t : Fin cfg0.N, cond0_0 (grid0.coords t) → ¬cond0_1 (grid0.coords t) → cond0_2 (grid0.coords t) → ¬cond0_3 (grid0.coords t) → cfg0.idle 4 (grid0.coords t) = true :=
  fun t h0 h1 h2 h3 => (by decide +kernel : ∀ t : Fin cfg0.N, conds0_A (grid0.coords t) → cfg0.idle 4 (grid0.coords t) = true) t ⟨h0, h1, h2, h3⟩
/-- At the points of case A the pipeline does not write output 4's block back. -/
theorem noFlush0_4_A : ∀ t : Fin cfg0.N, cond0_0 (grid0.coords t) → ¬cond0_1 (grid0.coords t) → cond0_2 (grid0.coords t) → ¬cond0_3 (grid0.coords t) → (cfg0.win 4).flush t = false :=
  fun t h0 h1 h2 h3 => (by decide +kernel : ∀ t : Fin cfg0.N, conds0_A (grid0.coords t) → (cfg0.win 4).flush t = false) t ⟨h0, h1, h2, h3⟩
/-- At the points of case B the printed configuration (`Cfg.idle`) calls output 4 idle: the case stores nothing into it. -/
theorem idleAt0_4_B : ∀ t : Fin cfg0.N, ¬cond0_0 (grid0.coords t) → ¬cond0_1 (grid0.coords t) → cond0_2 (grid0.coords t) → ¬cond0_3 (grid0.coords t) → cfg0.idle 4 (grid0.coords t) = true :=
  fun t h0 h1 h2 h3 => (by decide +kernel : ∀ t : Fin cfg0.N, conds0_B (grid0.coords t) → cfg0.idle 4 (grid0.coords t) = true) t ⟨h0, h1, h2, h3⟩
/-- At the points of case B the pipeline does not write output 4's block back. -/
theorem noFlush0_4_B : ∀ t : Fin cfg0.N, ¬cond0_0 (grid0.coords t) → ¬cond0_1 (grid0.coords t) → cond0_2 (grid0.coords t) → ¬cond0_3 (grid0.coords t) → (cfg0.win 4).flush t = false :=
  fun t h0 h1 h2 h3 => (by decide +kernel : ∀ t : Fin cfg0.N, conds0_B (grid0.coords t) → (cfg0.win 4).flush t = false) t ⟨h0, h1, h2, h3⟩
/-- At the points of case C the printed configuration (`Cfg.idle`) calls output 4 live: the case stores into it. -/
theorem liveAt0_4_C : ∀ t : Fin cfg0.N, ¬cond0_0 (grid0.coords t) → cond0_1 (grid0.coords t) → ¬cond0_2 (grid0.coords t) → cond0_3 (grid0.coords t) → cfg0.idle 4 (grid0.coords t) = false :=
  fun t h0 h1 h2 h3 => (by decide +kernel : ∀ t : Fin cfg0.N, conds0_C (grid0.coords t) → cfg0.idle 4 (grid0.coords t) = false) t ⟨h0, h1, h2, h3⟩
/-- At the points of case A the printed configuration (`Cfg.idle`) calls output 5 idle: the case stores nothing into it. -/
theorem idleAt0_5_A : ∀ t : Fin cfg0.N, cond0_0 (grid0.coords t) → ¬cond0_1 (grid0.coords t) → cond0_2 (grid0.coords t) → ¬cond0_3 (grid0.coords t) → cfg0.idle 5 (grid0.coords t) = true :=
  fun t h0 h1 h2 h3 => (by decide +kernel : ∀ t : Fin cfg0.N, conds0_A (grid0.coords t) → cfg0.idle 5 (grid0.coords t) = true) t ⟨h0, h1, h2, h3⟩
/-- At the points of case A the pipeline does not write output 5's block back. -/
theorem noFlush0_5_A : ∀ t : Fin cfg0.N, cond0_0 (grid0.coords t) → ¬cond0_1 (grid0.coords t) → cond0_2 (grid0.coords t) → ¬cond0_3 (grid0.coords t) → (cfg0.win 5).flush t = false :=
  fun t h0 h1 h2 h3 => (by decide +kernel : ∀ t : Fin cfg0.N, conds0_A (grid0.coords t) → (cfg0.win 5).flush t = false) t ⟨h0, h1, h2, h3⟩
/-- At the points of case B the printed configuration (`Cfg.idle`) calls output 5 idle: the case stores nothing into it. -/
theorem idleAt0_5_B : ∀ t : Fin cfg0.N, ¬cond0_0 (grid0.coords t) → ¬cond0_1 (grid0.coords t) → cond0_2 (grid0.coords t) → ¬cond0_3 (grid0.coords t) → cfg0.idle 5 (grid0.coords t) = true :=
  fun t h0 h1 h2 h3 => (by decide +kernel : ∀ t : Fin cfg0.N, conds0_B (grid0.coords t) → cfg0.idle 5 (grid0.coords t) = true) t ⟨h0, h1, h2, h3⟩
/-- At the points of case B the pipeline does not write output 5's block back. -/
theorem noFlush0_5_B : ∀ t : Fin cfg0.N, ¬cond0_0 (grid0.coords t) → ¬cond0_1 (grid0.coords t) → cond0_2 (grid0.coords t) → ¬cond0_3 (grid0.coords t) → (cfg0.win 5).flush t = false :=
  fun t h0 h1 h2 h3 => (by decide +kernel : ∀ t : Fin cfg0.N, conds0_B (grid0.coords t) → (cfg0.win 5).flush t = false) t ⟨h0, h1, h2, h3⟩
/-- At the points of case C the printed configuration (`Cfg.idle`) calls output 5 live: the case stores into it. -/
theorem liveAt0_5_C : ∀ t : Fin cfg0.N, ¬cond0_0 (grid0.coords t) → cond0_1 (grid0.coords t) → ¬cond0_2 (grid0.coords t) → cond0_3 (grid0.coords t) → cfg0.idle 5 (grid0.coords t) = false :=
  fun t h0 h1 h2 h3 => (by decide +kernel : ∀ t : Fin cfg0.N, conds0_C (grid0.coords t) → cfg0.idle 5 (grid0.coords t) = false) t ⟨h0, h1, h2, h3⟩

/-! ## The kernel body on any staging memrefs: a subtype the run finds -/

/-- One staging buffer of output window 4, through which its contents are stated (`View.read_writes_of_cover`: the
    choice does not matter). -/
abbrev VO0_4 : View sig .tc .vmem S1024x1 .i32 := (Memref.whole cc0_stg4_0 : Memref sig .tc .vmem S1024x1 .i32).view
/-- One staging buffer of output window 5, through which its contents are stated (`View.read_writes_of_cover`: the
    choice does not matter). -/
abbrev VO0_5 : View sig .tc .vmem S1024x1 .f32 := (Memref.whole cc0_stg5_0 : Memref sig .tc .vmem S1024x1 .f32).view
/-- Each window's current staging memref at point `t`, spelled as the pipeline passes it (`bodyAt0`), and its wholeness. -/
abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S1024x128 .bf16 := Memref.whole cc0_scratch0
abbrev scM0_1 : Memref sig .tc .vmem S1024x128 .f32 := Memref.whole cc0_scratch1
abbrev scM0_2 : Memref sig .tc .vmem S1024x128 .i32 := Memref.whole cc0_scratch2
/-- The scratch `arg7` the kernel carries between points, as a view: what it holds is stated through it. -/
abbrev VS0_0 : View sig .tc .vmem S1024x128 .bf16 := scM0_0.view
/-- The scratch `arg8` the kernel carries between points, as a view: what it holds is stated through it. -/
abbrev VS0_1 : View sig .tc .vmem S1024x128 .f32 := scM0_1.view
/-- The scratch `arg9` the kernel carries between points, as a view: what it holds is stated through it. -/
abbrev VS0_2 : View sig .tc .vmem S1024x128 .i32 := scM0_2.view

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Carry

end
-- ==== Proof.Carry.KernelIdeal.RunA.lean ====
/- The body of the idealized kernel at the first grid point: it normalises the queries, clears the two running
   scratches and scans the first tile of keys.
   Follows the generated module of the same place; the scratch of normalised queries (`arg7`), stored at the
   first point and read at every point, is carried here beside the running maximum and the running chunk. -/
module

public import proofs.«01_k».proof.Proof.Carry.KernelIdeal.Runs

@[expose] public section

set_option maxRecDepth 16384

noncomputable section

namespace Cert.KernelIdeal.Carry

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- What the body's stores leave in each output's staging memref, as pieces (last first) IN CASE A (`scf.if` 0 taken, `scf.if` 1 not taken, `scf.if` 2 taken, `scf.if` 3 not taken: points 0), WITH the
    proof that on whole staging memrefs — the inputs' at their contents, the outputs it leaves idle (4, 5: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1024x128 .f32) (harg1 : arg1.IsWhole) (arg2 : Memref sig .tc .vmem S2048x128 .f32) (harg2 : arg2.IsWhole) (arg3 : Memref sig .tc .smem S1 .f32) (harg3 : arg3.IsWhole) (arg4 : Memref sig .tc .smem S1 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .i32) (harg9 : arg9.IsWhole) (hc0 : cond0_0 i) (hc1 : ¬cond0_1 i) (hc2 : cond0_2 i) (hc3 : ¬cond0_3 i)
    (x0 : Vec F S1024x128 .f32) (x1 : Vec F S2048x128 .f32) (x2 : Vec F S1 .f32) (x3 : Vec F S1 .f32) :
    Σ' (L4 : List (View.Piece (Elt F) S1024x1 .i32)), Σ' (L5 : List (View.Piece (Elt F) S1024x1 .f32)), Σ' (LS0 : List (View.Piece (Elt F) S1024x128 .bf16)), Σ' (LS1 : List (View.Piece (Elt F) S1024x128 .f32)), { LS2 : List (View.Piece (Elt F) S1024x128 .i32) //
      ∀ (xi4 : Vec F S1024x1 .i32) (xi5 : Vec F S1024x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__knn_body i arg1 harg1 arg2 harg2 arg3 harg3 arg4 harg4 arg5 harg5 arg6 harg6 arg7 harg7 arg8 harg8 arg9 harg9) K } := by
  refine ⟨[], [], ?_, ?_, ?_, fun xi4 xi5 E K => ?run⟩
  case run =>
    simp only [cc0__knn_body_eq_skeleton]; unfold cc0__knn_body_skel
    simp only [k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    isplitl [HS1]; · iexists _; iexact HS1
    iexists _; iexact HS2

end Cert.KernelIdeal.Carry

end
-- ==== Proof.Carry.KernelIdeal.RunB.lean ====
/- The body of the idealized kernel at a point between the first and the last: it reads the normalised queries that the
   first point left and scans one whole tile of keys.
   Follows the generated module of the same place; the scratch of normalised queries (`arg7`), stored at the
   first point and read at every point, is carried here beside the running maximum and the running chunk. -/
module

public import proofs.«01_k».proof.Proof.Carry.KernelIdeal.RunA

@[expose] public section

set_option maxRecDepth 16384

noncomputable section

namespace Cert.KernelIdeal.Carry

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1200000 in
/-- What the body's stores leave in each output's staging memref, as pieces (last first) IN CASE B (`scf.if` 0 not taken, `scf.if` 1 not taken, `scf.if` 2 taken, `scf.if` 3 not taken: points 1, 2, … 47: 47 of 49), WITH the
    proof that on whole staging memrefs — the inputs' at their contents, the outputs it leaves idle (4, 5: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1024x128 .f32) (harg1 : arg1.IsWhole) (arg2 : Memref sig .tc .vmem S2048x128 .f32) (harg2 : arg2.IsWhole) (arg3 : Memref sig .tc .smem S1 .f32) (harg3 : arg3.IsWhole) (arg4 : Memref sig .tc .smem S1 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .i32) (harg9 : arg9.IsWhole) (hc0 : ¬cond0_0 i) (hc1 : ¬cond0_1 i) (hc2 : cond0_2 i) (hc3 : ¬cond0_3 i)
    (x0 : Vec F S1024x128 .f32) (x1 : Vec F S2048x128 .f32) (x2 : Vec F S1 .f32) (x3 : Vec F S1 .f32) (xs0 : Vec F S1024x128 .bf16) (xs1 : Vec F S1024x128 .f32) (xs2 : Vec F S1024x128 .i32) :
    Σ' (L4 : List (View.Piece (Elt F) S1024x1 .i32)), Σ' (L5 : List (View.Piece (Elt F) S1024x1 .f32)), Σ' (LS0 : List (View.Piece (Elt F) S1024x128 .bf16)), Σ' (LS1 : List (View.Piece (Elt F) S1024x128 .f32)), { LS2 : List (View.Piece (Elt F) S1024x128 .i32) //
      ∀ (xi4 : Vec F S1024x1 .i32) (xi5 : Vec F S1024x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ owns (c : Thread nD τ) arg7 fullShare xs0 ∗ owns (c : Thread nD τ) arg8 fullShare xs1 ∗ owns (c : Thread nD τ) arg9 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xi5 ∗ owns (c : Thread nD τ) arg7 fullShare xs0 ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__knn_body i arg1 harg1 arg2 harg2 arg3 harg3 arg4 harg4 arg5 harg5 arg6 harg6 arg7 harg7 arg8 harg8 arg9 harg9) K } := by
  refine ⟨[], [], [], ?_, ?_, fun xi4 xi5 E K => ?run⟩
  case run =>
    simp only [cc0__knn_body_eq_skeleton]; unfold cc0__knn_body_skel
    simp only [k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hfs0; obtain rfl := harg8.eq_unread hfs1; obtain rfl := harg9.eq_unread hfs2
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]
    · iexists _; isplitr; · ipureintro; exact harg7.read_unread _
      iexact HS0
    isplitl [HS1]; · iexists _; iexact HS1
    iexists _; iexact HS2

end Cert.KernelIdeal.Carry

end
-- ==== Proof.Carry.KernelIdeal.RunC.lean ====
/- The body of the idealized kernel at the last grid point: it scans the tile with the padding masked and writes both
   results.
   Follows the generated module of the same place; the scratch of normalised queries (`arg7`), stored at the
   first point and read at every point, is carried here beside the running maximum and the running chunk. -/
module

public import proofs.«01_k».proof.Proof.Carry.KernelIdeal.RunB

@[expose] public section

set_option maxRecDepth 16384

noncomputable section

namespace Cert.KernelIdeal.Carry

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1200000 in
/-- What the body's stores leave in each output's staging memref, as pieces (last first) IN CASE C (`scf.if` 0 not taken, `scf.if` 1 taken, `scf.if` 2 not taken, `scf.if` 3 taken: points 48), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S1024x128 .f32) (harg1 : arg1.IsWhole) (arg2 : Memref sig .tc .vmem S2048x128 .f32) (harg2 : arg2.IsWhole) (arg3 : Memref sig .tc .smem S1 .f32) (harg3 : arg3.IsWhole) (arg4 : Memref sig .tc .smem S1 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .i32) (harg9 : arg9.IsWhole) (hc0 : ¬cond0_0 i) (hc1 : cond0_1 i) (hc2 : ¬cond0_2 i) (hc3 : cond0_3 i)
    (x0 : Vec F S1024x128 .f32) (x1 : Vec F S2048x128 .f32) (x2 : Vec F S1 .f32) (x3 : Vec F S1 .f32) (xs0 : Vec F S1024x128 .bf16) (xs1 : Vec F S1024x128 .f32) (xs2 : Vec F S1024x128 .i32) :
    Σ' (L4 : List (View.Piece (Elt F) S1024x1 .i32)), Σ' (L5 : List (View.Piece (Elt F) S1024x1 .f32)), Σ' (LS0 : List (View.Piece (Elt F) S1024x128 .bf16)), Σ' (LS1 : List (View.Piece (Elt F) S1024x128 .f32)), { LS2 : List (View.Piece (Elt F) S1024x128 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ owns (c : Thread nD τ) arg7 fullShare xs0 ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__knn_body i arg1 harg1 arg2 harg2 arg3 harg3 arg4 harg4 arg5 harg5 arg6 harg6 arg7 harg7 arg8 harg8 arg9 harg9) K } := by
  refine ⟨?_, ?_, [], ?_, ?_, fun E K => ?run⟩
  case run =>
    simp only [cc0__knn_body_eq_skeleton]; unfold cc0__knn_body_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, ⟨%fs2, %hfs2, HS2⟩, Hk⟩
    obtain rfl := harg1.eq_unread hf0; obtain rfl := harg2.eq_unread hf1; obtain rfl := harg3.eq_unread hf2; obtain rfl := harg4.eq_unread hf3; obtain rfl := harg7.eq_unread hfs0; obtain rfl := harg8.eq_unread hfs1; obtain rfl := harg9.eq_unread hfs2
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [HS0]
    · iexists _; isplitr; · ipureintro; exact harg7.read_unread _
      iexact HS0
    isplitl [HS1]; · iexists _; iexact HS1
    iexists _; iexact HS2

end Cert.KernelIdeal.Carry

end
-- ==== Proof.Carry.KernelIdeal.Frame.lean ====
/- The frame of the idealized kernel: what the buffers hold point by point, the body's obligation, the run of the
   whole launch and the frame claim.
   Follows the generated module of the same place; the scratch of normalised queries (`arg7`), stored at the
   first point and read at every point, is carried here beside the running maximum and the running chunk. -/
module

public import proofs.«01_k».proof.Proof.Carry.KernelIdeal.RunC
public import Idealize.ShloMosaic.Lib.Claim

@[expose] public section

set_option maxRecDepth 16384

noncomputable section

namespace Cert.KernelIdeal.Carry

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 4 (the window is idle at its points and not written back there):
    no pieces — a placeholder (junk read back) that nothing consults, since at these points the window is neither
    written back nor read at the next point (Lib/Pipeline.lean "Idle points"). -/
def out0_A_4 (c : Dev nD) (i : grid0.Coords) (arg1 : Memref sig .tc .vmem S1024x128 .f32) (harg1 : arg1.IsWhole) (arg2 : Memref sig .tc .vmem S2048x128 .f32) (harg2 : arg2.IsWhole) (arg3 : Memref sig .tc .smem S1 .f32) (harg3 : arg3.IsWhole) (arg4 : Memref sig .tc .smem S1 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .i32) (harg9 : arg9.IsWhole) (hc0 : cond0_0 i) (hc1 : ¬cond0_1 i) (hc2 : cond0_2 i) (hc3 : ¬cond0_3 i)
    (x0 : Vec F S1024x128 .f32) (x1 : Vec F S2048x128 .f32) (x2 : Vec F S1 .f32) (x3 : Vec F S1 .f32) : Vec F S1024x1 .i32 :=
  VO0_4.read (Elt F) (VO0_4.writes (Elt F) VO0_4.junk (kernelRun0_A c i arg1 harg1 arg2 harg2 arg3 harg3 arg4 harg4 arg5 harg5 arg6 harg6 arg7 harg7 arg8 harg8 arg9 harg9 hc0 hc1 hc2 hc3 x0 x1 x2 x3).1)

/-- Case A stores nothing into output 5 (the window is idle at its points and not written back there):
    no pieces — a placeholder (junk read back) that nothing consults, since at these points the window is neither
    written back nor read at the next point (Lib/Pipeline.lean "Idle points"). -/
def out0_A_5 (c : Dev nD) (i : grid0.Coords) (arg1 : Memref sig .tc .vmem S1024x128 .f32) (harg1 : arg1.IsWhole) (arg2 : Memref sig .tc .vmem S2048x128 .f32) (harg2 : arg2.IsWhole) (arg3 : Memref sig .tc .smem S1 .f32) (harg3 : arg3.IsWhole) (arg4 : Memref sig .tc .smem S1 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .i32) (harg9 : arg9.IsWhole) (hc0 : cond0_0 i) (hc1 : ¬cond0_1 i) (hc2 : cond0_2 i) (hc3 : ¬cond0_3 i)
    (x0 : Vec F S1024x128 .f32) (x1 : Vec F S2048x128 .f32) (x2 : Vec F S1 .f32) (x3 : Vec F S1 .f32) : Vec F S1024x1 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 hc0 hc1 hc2 hc3 x0 x1 x2 x3).2.1)

/-- Case A's pieces for scratch `arg7`, which the kernel carries between points, cover it: 1 piece of `S1024x128` tiling it (Lib/Ring.lean `Piece.tiledL`). -/
theorem scover0_A_0 (c : Dev nD) (i : grid0.Coords) (arg1 : Memref sig .tc .vmem S1024x128 .f32) (harg1 : arg1.IsWhole) (arg2 : Memref sig .tc .vmem S2048x128 .f32) (harg2 : arg2.IsWhole) (arg3 : Memref sig .tc .smem S1 .f32) (harg3 : arg3.IsWhole) (arg4 : Memref sig .tc .smem S1 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .i32) (harg9 : arg9.IsWhole) (hc0 : cond0_0 i) (hc1 : ¬cond0_1 i) (hc2 : cond0_2 i) (hc3 : ¬cond0_3 i)
    (x0 : Vec F S1024x128 .f32) (x1 : Vec F S2048x128 .f32) (x2 : Vec F S1 .f32) (x3 : Vec F S1 .f32) (y : S1024x128.Idx) :
    ∃ pc ∈ (kernelRun0_A c i arg1 harg1 arg2 harg2 arg3 harg3 arg4 harg4 arg5 harg5 arg6 harg6 arg7 harg7 arg8 harg8 arg9 harg9 hc0 hc1 hc2 hc3 x0 x1 x2 x3).2.2.1, y ∈ pc.1.set :=
  View.cover_of_tiledL (kernelRun0_A c i arg1 harg1 arg2 harg2 arg3 harg3 arg4 harg4 arg5 harg5 arg6 harg6 arg7 harg7 arg8 harg8 arg9 harg9 hc0 hc1 hc2 hc3 x0 x1 x2 x3).2.2.1 S1024x128.size (by sl_kernel_rfl) y

/-- What case A leaves in scratch `arg7`: its pieces read back over junk. -/
def sout0_A_0 (c : Dev nD) (i : grid0.Coords) (arg1 : Memref sig .tc .vmem S1024x128 .f32) (harg1 : arg1.IsWhole) (arg2 : Memref sig .tc .vmem S2048x128 .f32) (harg2 : arg2.IsWhole) (arg3 : Memref sig .tc .smem S1 .f32) (harg3 : arg3.IsWhole) (arg4 : Memref sig .tc .smem S1 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .i32) (harg9 : arg9.IsWhole) (hc0 : cond0_0 i) (hc1 : ¬cond0_1 i) (hc2 : cond0_2 i) (hc3 : ¬cond0_3 i)
    (x0 : Vec F S1024x128 .f32) (x1 : Vec F S2048x128 .f32) (x2 : Vec F S1 .f32) (x3 : Vec F S1 .f32) : Vec F S1024x128 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 hc0 hc1 hc2 hc3 x0 x1 x2 x3).2.2.1)

/-- Case A's pieces for scratch `arg8`, which the kernel carries between points, cover it: 2 pieces of `S1024x128` tiling it (Lib/Ring.lean `Piece.tiledL`). -/
theorem scover0_A_1 (c : Dev nD) (i : grid0.Coords) (arg1 : Memref sig .tc .vmem S1024x128 .f32) (harg1 : arg1.IsWhole) (arg2 : Memref sig .tc .vmem S2048x128 .f32) (harg2 : arg2.IsWhole) (arg3 : Memref sig .tc .smem S1 .f32) (harg3 : arg3.IsWhole) (arg4 : Memref sig .tc .smem S1 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .i32) (harg9 : arg9.IsWhole) (hc0 : cond0_0 i) (hc1 : ¬cond0_1 i) (hc2 : cond0_2 i) (hc3 : ¬cond0_3 i)
    (x0 : Vec F S1024x128 .f32) (x1 : Vec F S2048x128 .f32) (x2 : Vec F S1 .f32) (x3 : Vec F S1 .f32) (y : S1024x128.Idx) :
    ∃ pc ∈ (kernelRun0_A c i arg1 harg1 arg2 harg2 arg3 harg3 arg4 harg4 arg5 harg5 arg6 harg6 arg7 harg7 arg8 harg8 arg9 harg9 hc0 hc1 hc2 hc3 x0 x1 x2 x3).2.2.2.1, y ∈ pc.1.set :=
  View.cover_of_tiledL (kernelRun0_A c i arg1 harg1 arg2 harg2 arg3 harg3 arg4 harg4 arg5 harg5 arg6 harg6 arg7 harg7 arg8 harg8 arg9 harg9 hc0 hc1 hc2 hc3 x0 x1 x2 x3).2.2.2.1 S1024x128.size (by sl_kernel_rfl) y

/-- What case A leaves in scratch `arg8`: its pieces read back over junk. -/
def sout0_A_1 (c : Dev nD) (i : grid0.Coords) (arg1 : Memref sig .tc .vmem S1024x128 .f32) (harg1 : arg1.IsWhole) (arg2 : Memref sig .tc .vmem S2048x128 .f32) (harg2 : arg2.IsWhole) (arg3 : Memref sig .tc .smem S1 .f32) (harg3 : arg3.IsWhole) (arg4 : Memref sig .tc .smem S1 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .i32) (harg9 : arg9.IsWhole) (hc0 : cond0_0 i) (hc1 : ¬cond0_1 i) (hc2 : cond0_2 i) (hc3 : ¬cond0_3 i)
    (x0 : Vec F S1024x128 .f32) (x1 : Vec F S2048x128 .f32) (x2 : Vec F S1 .f32) (x3 : Vec F S1 .f32) : Vec F S1024x128 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 hc0 hc1 hc2 hc3 x0 x1 x2 x3).2.2.2.1)

/-- Case A's pieces for scratch `arg9`, which the kernel carries between points, cover it: 2 pieces of `S1024x128` tiling it (Lib/Ring.lean `Piece.tiledL`). -/
theorem scover0_A_2 (c : Dev nD) (i : grid0.Coords) (arg1 : Memref sig .tc .vmem S1024x128 .f32) (harg1 : arg1.IsWhole) (arg2 : Memref sig .tc .vmem S2048x128 .f32) (harg2 : arg2.IsWhole) (arg3 : Memref sig .tc .smem S1 .f32) (harg3 : arg3.IsWhole) (arg4 : Memref sig .tc .smem S1 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .i32) (harg9 : arg9.IsWhole) (hc0 : cond0_0 i) (hc1 : ¬cond0_1 i) (hc2 : cond0_2 i) (hc3 : ¬cond0_3 i)
    (x0 : Vec F S1024x128 .f32) (x1 : Vec F S2048x128 .f32) (x2 : Vec F S1 .f32) (x3 : Vec F S1 .f32) (y : S1024x128.Idx) :
    ∃ pc ∈ (kernelRun0_A c i arg1 harg1 arg2 harg2 arg3 harg3 arg4 harg4 arg5 harg5 arg6 harg6 arg7 harg7 arg8 harg8 arg9 harg9 hc0 hc1 hc2 hc3 x0 x1 x2 x3).2.2.2.2.1, y ∈ pc.1.set :=
  View.cover_of_tiledL (kernelRun0_A c i arg1 harg1 arg2 harg2 arg3 harg3 arg4 harg4 arg5 harg5 arg6 harg6 arg7 harg7 arg8 harg8 arg9 harg9 hc0 hc1 hc2 hc3 x0 x1 x2 x3).2.2.2.2.1 S1024x128.size (by sl_kernel_rfl) y

/-- What case A leaves in scratch `arg9`: its pieces read back over junk. -/
def sout0_A_2 (c : Dev nD) (i : grid0.Coords) (arg1 : Memref sig .tc .vmem S1024x128 .f32) (harg1 : arg1.IsWhole) (arg2 : Memref sig .tc .vmem S2048x128 .f32) (harg2 : arg2.IsWhole) (arg3 : Memref sig .tc .smem S1 .f32) (harg3 : arg3.IsWhole) (arg4 : Memref sig .tc .smem S1 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .i32) (harg9 : arg9.IsWhole) (hc0 : cond0_0 i) (hc1 : ¬cond0_1 i) (hc2 : cond0_2 i) (hc3 : ¬cond0_3 i)
    (x0 : Vec F S1024x128 .f32) (x1 : Vec F S2048x128 .f32) (x2 : Vec F S1 .f32) (x3 : Vec F S1 .f32) : Vec F S1024x128 .i32 :=
  VS0_2.read (Elt F) (VS0_2.writes (Elt F) VS0_2.junk (kernelRun0_A c i arg1 harg1 arg2 harg2 arg3 harg3 arg4 harg4 arg5 harg5 arg6 harg6 arg7 harg7 arg8 harg8 arg9 harg9 hc0 hc1 hc2 hc3 x0 x1 x2 x3).2.2.2.2.1)

/-- Case B stores nothing into output 4 (the window is idle at its points and not written back there):
    no pieces — a placeholder (junk read back) that nothing consults, since at these points the window is neither
    written back nor read at the next point (Lib/Pipeline.lean "Idle points"). -/
def out0_B_4 (c : Dev nD) (i : grid0.Coords) (arg1 : Memref sig .tc .vmem S1024x128 .f32) (harg1 : arg1.IsWhole) (arg2 : Memref sig .tc .vmem S2048x128 .f32) (harg2 : arg2.IsWhole) (arg3 : Memref sig .tc .smem S1 .f32) (harg3 : arg3.IsWhole) (arg4 : Memref sig .tc .smem S1 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .i32) (harg9 : arg9.IsWhole) (hc0 : ¬cond0_0 i) (hc1 : ¬cond0_1 i) (hc2 : cond0_2 i) (hc3 : ¬cond0_3 i)
    (x0 : Vec F S1024x128 .f32) (x1 : Vec F S2048x128 .f32) (x2 : Vec F S1 .f32) (x3 : Vec F S1 .f32) (xs0 : Vec F S1024x128 .bf16) (xs1 : Vec F S1024x128 .f32) (xs2 : Vec F S1024x128 .i32) : Vec F S1024x1 .i32 :=
  VO0_4.read (Elt F) (VO0_4.writes (Elt F) VO0_4.junk (kernelRun0_B c i arg1 harg1 arg2 harg2 arg3 harg3 arg4 harg4 arg5 harg5 arg6 harg6 arg7 harg7 arg8 harg8 arg9 harg9 hc0 hc1 hc2 hc3 x0 x1 x2 x3 xs0 xs1 xs2).1)

/-- Case B stores nothing into output 5 (the window is idle at its points and not written back there):
    no pieces — a placeholder (junk read back) that nothing consults, since at these points the window is neither
    written back nor read at the next point (Lib/Pipeline.lean "Idle points"). -/
def out0_B_5 (c : Dev nD) (i : grid0.Coords) (arg1 : Memref sig .tc .vmem S1024x128 .f32) (harg1 : arg1.IsWhole) (arg2 : Memref sig .tc .vmem S2048x128 .f32) (harg2 : arg2.IsWhole) (arg3 : Memref sig .tc .smem S1 .f32) (harg3 : arg3.IsWhole) (arg4 : Memref sig .tc .smem S1 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .i32) (harg9 : arg9.IsWhole) (hc0 : ¬cond0_0 i) (hc1 : ¬cond0_1 i) (hc2 : cond0_2 i) (hc3 : ¬cond0_3 i)
    (x0 : Vec F S1024x128 .f32) (x1 : Vec F S2048x128 .f32) (x2 : Vec F S1 .f32) (x3 : Vec F S1 .f32) (xs0 : Vec F S1024x128 .bf16) (xs1 : Vec F S1024x128 .f32) (xs2 : Vec F S1024x128 .i32) : Vec F S1024x1 .f32 :=
  VO0_5.read (Elt F) (VO0_5.writes (Elt F) VO0_5.junk (kernelRun0_B c i arg1 harg1 arg2 harg2 arg3 harg3 arg4 harg4 arg5 harg5 arg6 harg6 arg7 harg7 arg8 harg8 arg9 harg9 hc0 hc1 hc2 hc3 x0 x1 x2 x3 xs0 xs1 xs2).2.1)

/-- Case B stores nothing into scratch `arg7`: it holds what the point before left. -/
def sout0_B_0 (c : Dev nD) (i : grid0.Coords) (arg1 : Memref sig .tc .vmem S1024x128 .f32) (harg1 : arg1.IsWhole) (arg2 : Memref sig .tc .vmem S2048x128 .f32) (harg2 : arg2.IsWhole) (arg3 : Memref sig .tc .smem S1 .f32) (harg3 : arg3.IsWhole) (arg4 : Memref sig .tc .smem S1 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .i32) (harg9 : arg9.IsWhole) (hc0 : ¬cond0_0 i) (hc1 : ¬cond0_1 i) (hc2 : cond0_2 i) (hc3 : ¬cond0_3 i)
    (x0 : Vec F S1024x128 .f32) (x1 : Vec F S2048x128 .f32) (x2 : Vec F S1 .f32) (x3 : Vec F S1 .f32) (xs0 : Vec F S1024x128 .bf16) (xs1 : Vec F S1024x128 .f32) (xs2 : Vec F S1024x128 .i32) : Vec F S1024x128 .bf16 := xs0

/-- Case B's pieces for scratch `arg8`, which the kernel carries between points, cover it: 1 piece of `S1024x128` tiling it (Lib/Ring.lean `Piece.tiledL`). -/
theorem scover0_B_1 (c : Dev nD) (i : grid0.Coords) (arg1 : Memref sig .tc .vmem S1024x128 .f32) (harg1 : arg1.IsWhole) (arg2 : Memref sig .tc .vmem S2048x128 .f32) (harg2 : arg2.IsWhole) (arg3 : Memref sig .tc .smem S1 .f32) (harg3 : arg3.IsWhole) (arg4 : Memref sig .tc .smem S1 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .i32) (harg9 : arg9.IsWhole) (hc0 : ¬cond0_0 i) (hc1 : ¬cond0_1 i) (hc2 : cond0_2 i) (hc3 : ¬cond0_3 i)
    (x0 : Vec F S1024x128 .f32) (x1 : Vec F S2048x128 .f32) (x2 : Vec F S1 .f32) (x3 : Vec F S1 .f32) (xs0 : Vec F S1024x128 .bf16) (xs1 : Vec F S1024x128 .f32) (xs2 : Vec F S1024x128 .i32) (y : S1024x128.Idx) :
    ∃ pc ∈ (kernelRun0_B c i arg1 harg1 arg2 harg2 arg3 harg3 arg4 harg4 arg5 harg5 arg6 harg6 arg7 harg7 arg8 harg8 arg9 harg9 hc0 hc1 hc2 hc3 x0 x1 x2 x3 xs0 xs1 xs2).2.2.2.1, y ∈ pc.1.set :=
  View.cover_of_tiledL (kernelRun0_B c i arg1 harg1 arg2 harg2 arg3 harg3 arg4 harg4 arg5 harg5 arg6 harg6 arg7 harg7 arg8 harg8 arg9 harg9 hc0 hc1 hc2 hc3 x0 x1 x2 x3 xs0 xs1 xs2).2.2.2.1 S1024x128.size (by sl_kernel_rfl) y

/-- What case B leaves in scratch `arg8`: its pieces read back over junk. -/
def sout0_B_1 (c : Dev nD) (i : grid0.Coords) (arg1 : Memref sig .tc .vmem S1024x128 .f32) (harg1 : arg1.IsWhole) (arg2 : Memref sig .tc .vmem S2048x128 .f32) (harg2 : arg2.IsWhole) (arg3 : Memref sig .tc .smem S1 .f32) (harg3 : arg3.IsWhole) (arg4 : Memref sig .tc .smem S1 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .i32) (harg9 : arg9.IsWhole) (hc0 : ¬cond0_0 i) (hc1 : ¬cond0_1 i) (hc2 : cond0_2 i) (hc3 : ¬cond0_3 i)
    (x0 : Vec F S1024x128 .f32) (x1 : Vec F S2048x128 .f32) (x2 : Vec F S1 .f32) (x3 : Vec F S1 .f32) (xs0 : Vec F S1024x128 .bf16) (xs1 : Vec F S1024x128 .f32) (xs2 : Vec F S1024x128 .i32) : Vec F S1024x128 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 hc0 hc1 hc2 hc3 x0 x1 x2 x3 xs0 xs1 xs2).2.2.2.1)

/-- Case B's pieces for scratch `arg9`, which the kernel carries between points, cover it: 1 piece of `S1024x128` tiling it (Lib/Ring.lean `Piece.tiledL`). -/
theorem scover0_B_2 (c : Dev nD) (i : grid0.Coords) (arg1 : Memref sig .tc .vmem S1024x128 .f32) (harg1 : arg1.IsWhole) (arg2 : Memref sig .tc .vmem S2048x128 .f32) (harg2 : arg2.IsWhole) (arg3 : Memref sig .tc .smem S1 .f32) (harg3 : arg3.IsWhole) (arg4 : Memref sig .tc .smem S1 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .i32) (harg9 : arg9.IsWhole) (hc0 : ¬cond0_0 i) (hc1 : ¬cond0_1 i) (hc2 : cond0_2 i) (hc3 : ¬cond0_3 i)
    (x0 : Vec F S1024x128 .f32) (x1 : Vec F S2048x128 .f32) (x2 : Vec F S1 .f32) (x3 : Vec F S1 .f32) (xs0 : Vec F S1024x128 .bf16) (xs1 : Vec F S1024x128 .f32) (xs2 : Vec F S1024x128 .i32) (y : S1024x128.Idx) :
    ∃ pc ∈ (kernelRun0_B c i arg1 harg1 arg2 harg2 arg3 harg3 arg4 harg4 arg5 harg5 arg6 harg6 arg7 harg7 arg8 harg8 arg9 harg9 hc0 hc1 hc2 hc3 x0 x1 x2 x3 xs0 xs1 xs2).2.2.2.2.1, y ∈ pc.1.set :=
  View.cover_of_tiledL (kernelRun0_B c i arg1 harg1 arg2 harg2 arg3 harg3 arg4 harg4 arg5 harg5 arg6 harg6 arg7 harg7 arg8 harg8 arg9 harg9 hc0 hc1 hc2 hc3 x0 x1 x2 x3 xs0 xs1 xs2).2.2.2.2.1 S1024x128.size (by sl_kernel_rfl) y

/-- What case B leaves in scratch `arg9`: its pieces read back over junk. -/
def sout0_B_2 (c : Dev nD) (i : grid0.Coords) (arg1 : Memref sig .tc .vmem S1024x128 .f32) (harg1 : arg1.IsWhole) (arg2 : Memref sig .tc .vmem S2048x128 .f32) (harg2 : arg2.IsWhole) (arg3 : Memref sig .tc .smem S1 .f32) (harg3 : arg3.IsWhole) (arg4 : Memref sig .tc .smem S1 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .i32) (harg9 : arg9.IsWhole) (hc0 : ¬cond0_0 i) (hc1 : ¬cond0_1 i) (hc2 : cond0_2 i) (hc3 : ¬cond0_3 i)
    (x0 : Vec F S1024x128 .f32) (x1 : Vec F S2048x128 .f32) (x2 : Vec F S1 .f32) (x3 : Vec F S1 .f32) (xs0 : Vec F S1024x128 .bf16) (xs1 : Vec F S1024x128 .f32) (xs2 : Vec F S1024x128 .i32) : Vec F S1024x128 .i32 :=
  VS0_2.read (Elt F) (VS0_2.writes (Elt F) VS0_2.junk (kernelRun0_B c i arg1 harg1 arg2 harg2 arg3 harg3 arg4 harg4 arg5 harg5 arg6 harg6 arg7 harg7 arg8 harg8 arg9 harg9 hc0 hc1 hc2 hc3 x0 x1 x2 x3 xs0 xs1 xs2).2.2.2.2.1)

/-- Case C's pieces for output 4 tile its block (1 store of `S1024x1`, checked by the kernel's evaluation: Lib/Ring.lean `Piece.tiledL`, linear in the pieces, through a loop's `@[irreducible]` trip theorem too), so they cover it. -/
theorem cover0_C_4 (c : Dev nD) (i : grid0.Coords) (arg1 : Memref sig .tc .vmem S1024x128 .f32) (harg1 : arg1.IsWhole) (arg2 : Memref sig .tc .vmem S2048x128 .f32) (harg2 : arg2.IsWhole) (arg3 : Memref sig .tc .smem S1 .f32) (harg3 : arg3.IsWhole) (arg4 : Memref sig .tc .smem S1 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .i32) (harg9 : arg9.IsWhole) (hc0 : ¬cond0_0 i) (hc1 : cond0_1 i) (hc2 : ¬cond0_2 i) (hc3 : cond0_3 i)
    (x0 : Vec F S1024x128 .f32) (x1 : Vec F S2048x128 .f32) (x2 : Vec F S1 .f32) (x3 : Vec F S1 .f32) (xs0 : Vec F S1024x128 .bf16) (xs1 : Vec F S1024x128 .f32) (xs2 : Vec F S1024x128 .i32) (y : S1024x1.Idx) :
    ∃ pc ∈ (kernelRun0_C c i arg1 harg1 arg2 harg2 arg3 harg3 arg4 harg4 arg5 harg5 arg6 harg6 arg7 harg7 arg8 harg8 arg9 harg9 hc0 hc1 hc2 hc3 x0 x1 x2 x3 xs0 xs1 xs2).1, y ∈ pc.1.set :=
  View.cover_of_tiledL (kernelRun0_C c i arg1 harg1 arg2 harg2 arg3 harg3 arg4 harg4 arg5 harg5 arg6 harg6 arg7 harg7 arg8 harg8 arg9 harg9 hc0 hc1 hc2 hc3 x0 x1 x2 x3 xs0 xs1 xs2).1 S1024x1.size (by sl_kernel_rfl) y

/-- What case C leaves in output 4's staging buffer: its pieces read back over junk. -/
def out0_C_4 (c : Dev nD) (i : grid0.Coords) (arg1 : Memref sig .tc .vmem S1024x128 .f32) (harg1 : arg1.IsWhole) (arg2 : Memref sig .tc .vmem S2048x128 .f32) (harg2 : arg2.IsWhole) (arg3 : Memref sig .tc .smem S1 .f32) (harg3 : arg3.IsWhole) (arg4 : Memref sig .tc .smem S1 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .i32) (harg9 : arg9.IsWhole) (hc0 : ¬cond0_0 i) (hc1 : cond0_1 i) (hc2 : ¬cond0_2 i) (hc3 : cond0_3 i)
    (x0 : Vec F S1024x128 .f32) (x1 : Vec F S2048x128 .f32) (x2 : Vec F S1 .f32) (x3 : Vec F S1 .f32) (xs0 : Vec F S1024x128 .bf16) (xs1 : Vec F S1024x128 .f32) (xs2 : Vec F S1024x128 .i32) : Vec F S1024x1 .i32 :=
  VO0_4.read (Elt F) (VO0_4.writes (Elt F) VO0_4.junk (kernelRun0_C c i arg1 harg1 arg2 harg2 arg3 harg3 arg4 harg4 arg5 harg5 arg6 harg6 arg7 harg7 arg8 harg8 arg9 harg9 hc0 hc1 hc2 hc3 x0 x1 x2 x3 xs0 xs1 xs2).1)

/-- Case C's pieces for output 5 tile its block (1 store of `S1024x1`, checked by the kernel's evaluation: Lib/Ring.lean `Piece.tiledL`, linear in the pieces, through a loop's `@[irreducible]` trip theorem too), so they cover it. -/
theorem cover0_C_5 (c : Dev nD) (i : grid0.Coords) (arg1 : Memref sig .tc .vmem S1024x128 .f32) (harg1 : arg1.IsWhole) (arg2 : Memref sig .tc .vmem S2048x128 .f32) (harg2 : arg2.IsWhole) (arg3 : Memref sig .tc .smem S1 .f32) (harg3 : arg3.IsWhole) (arg4 : Memref sig .tc .smem S1 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .i32) (harg9 : arg9.IsWhole) (hc0 : ¬cond0_0 i) (hc1 : cond0_1 i) (hc2 : ¬cond0_2 i) (hc3 : cond0_3 i)
    (x0 : Vec F S1024x128 .f32) (x1 : Vec F S2048x128 .f32) (x2 : Vec F S1 .f32) (x3 : Vec F S1 .f32) (xs0 : Vec F S1024x128 .bf16) (xs1 : Vec F S1024x128 .f32) (xs2 : Vec F S1024x128 .i32) (y : S1024x1.Idx) :
    ∃ pc ∈ (kernelRun0_C c i arg1 harg1 arg2 harg2 arg3 harg3 arg4 harg4 arg5 harg5 arg6 harg6 arg7 harg7 arg8 harg8 arg9 harg9 hc0 hc1 hc2 hc3 x0 x1 x2 x3 xs0 xs1 xs2).2.1, y ∈ pc.1.set :=
  View.cover_of_tiledL (kernelRun0_C c i arg1 harg1 arg2 harg2 arg3 harg3 arg4 harg4 arg5 harg5 arg6 harg6 arg7 harg7 arg8 harg8 arg9 harg9 hc0 hc1 hc2 hc3 x0 x1 x2 x3 xs0 xs1 xs2).2.1 S1024x1.size (by sl_kernel_rfl) y

/-- What case C leaves in output 5's staging buffer: its pieces read back over junk. -/
def out0_C_5 (c : Dev nD) (i : grid0.Coords) (arg1 : Memref sig .tc .vmem S1024x128 .f32) (harg1 : arg1.IsWhole) (arg2 : Memref sig .tc .vmem S2048x128 .f32) (harg2 : arg2.IsWhole) (arg3 : Memref sig .tc .smem S1 .f32) (harg3 : arg3.IsWhole) (arg4 : Memref sig .tc .smem S1 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .i32) (harg9 : arg9.IsWhole) (hc0 : ¬cond0_0 i) (hc1 : cond0_1 i) (hc2 : ¬cond0_2 i) (hc3 : cond0_3 i)
    (x0 : Vec F S1024x128 .f32) (x1 : Vec F S2048x128 .f32) (x2 : Vec F S1 .f32) (x3 : Vec F S1 .f32) (xs0 : Vec F S1024x128 .bf16) (xs1 : Vec F S1024x128 .f32) (xs2 : Vec F S1024x128 .i32) : Vec F S1024x1 .f32 :=
  VO0_5.read (Elt F) (VO0_5.writes (Elt F) VO0_5.junk (kernelRun0_C c i arg1 harg1 arg2 harg2 arg3 harg3 arg4 harg4 arg5 harg5 arg6 harg6 arg7 harg7 arg8 harg8 arg9 harg9 hc0 hc1 hc2 hc3 x0 x1 x2 x3 xs0 xs1 xs2).2.1)

/-- Case C stores nothing into scratch `arg7`: it holds what the point before left. -/
def sout0_C_0 (c : Dev nD) (i : grid0.Coords) (arg1 : Memref sig .tc .vmem S1024x128 .f32) (harg1 : arg1.IsWhole) (arg2 : Memref sig .tc .vmem S2048x128 .f32) (harg2 : arg2.IsWhole) (arg3 : Memref sig .tc .smem S1 .f32) (harg3 : arg3.IsWhole) (arg4 : Memref sig .tc .smem S1 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .i32) (harg9 : arg9.IsWhole) (hc0 : ¬cond0_0 i) (hc1 : cond0_1 i) (hc2 : ¬cond0_2 i) (hc3 : cond0_3 i)
    (x0 : Vec F S1024x128 .f32) (x1 : Vec F S2048x128 .f32) (x2 : Vec F S1 .f32) (x3 : Vec F S1 .f32) (xs0 : Vec F S1024x128 .bf16) (xs1 : Vec F S1024x128 .f32) (xs2 : Vec F S1024x128 .i32) : Vec F S1024x128 .bf16 := xs0

/-- Case C's pieces for scratch `arg8`, which the kernel carries between points, cover it: 1 piece of `S1024x128` tiling it (Lib/Ring.lean `Piece.tiledL`). -/
theorem scover0_C_1 (c : Dev nD) (i : grid0.Coords) (arg1 : Memref sig .tc .vmem S1024x128 .f32) (harg1 : arg1.IsWhole) (arg2 : Memref sig .tc .vmem S2048x128 .f32) (harg2 : arg2.IsWhole) (arg3 : Memref sig .tc .smem S1 .f32) (harg3 : arg3.IsWhole) (arg4 : Memref sig .tc .smem S1 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .i32) (harg9 : arg9.IsWhole) (hc0 : ¬cond0_0 i) (hc1 : cond0_1 i) (hc2 : ¬cond0_2 i) (hc3 : cond0_3 i)
    (x0 : Vec F S1024x128 .f32) (x1 : Vec F S2048x128 .f32) (x2 : Vec F S1 .f32) (x3 : Vec F S1 .f32) (xs0 : Vec F S1024x128 .bf16) (xs1 : Vec F S1024x128 .f32) (xs2 : Vec F S1024x128 .i32) (y : S1024x128.Idx) :
    ∃ pc ∈ (kernelRun0_C c i arg1 harg1 arg2 harg2 arg3 harg3 arg4 harg4 arg5 harg5 arg6 harg6 arg7 harg7 arg8 harg8 arg9 harg9 hc0 hc1 hc2 hc3 x0 x1 x2 x3 xs0 xs1 xs2).2.2.2.1, y ∈ pc.1.set :=
  View.cover_of_tiledL (kernelRun0_C c i arg1 harg1 arg2 harg2 arg3 harg3 arg4 harg4 arg5 harg5 arg6 harg6 arg7 harg7 arg8 harg8 arg9 harg9 hc0 hc1 hc2 hc3 x0 x1 x2 x3 xs0 xs1 xs2).2.2.2.1 S1024x128.size (by sl_kernel_rfl) y

/-- What case C leaves in scratch `arg8`: its pieces read back over junk. -/
def sout0_C_1 (c : Dev nD) (i : grid0.Coords) (arg1 : Memref sig .tc .vmem S1024x128 .f32) (harg1 : arg1.IsWhole) (arg2 : Memref sig .tc .vmem S2048x128 .f32) (harg2 : arg2.IsWhole) (arg3 : Memref sig .tc .smem S1 .f32) (harg3 : arg3.IsWhole) (arg4 : Memref sig .tc .smem S1 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .i32) (harg9 : arg9.IsWhole) (hc0 : ¬cond0_0 i) (hc1 : cond0_1 i) (hc2 : ¬cond0_2 i) (hc3 : cond0_3 i)
    (x0 : Vec F S1024x128 .f32) (x1 : Vec F S2048x128 .f32) (x2 : Vec F S1 .f32) (x3 : Vec F S1 .f32) (xs0 : Vec F S1024x128 .bf16) (xs1 : Vec F S1024x128 .f32) (xs2 : Vec F S1024x128 .i32) : Vec F S1024x128 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 hc0 hc1 hc2 hc3 x0 x1 x2 x3 xs0 xs1 xs2).2.2.2.1)

/-- Case C's pieces for scratch `arg9`, which the kernel carries between points, cover it: 1 piece of `S1024x128` tiling it (Lib/Ring.lean `Piece.tiledL`). -/
theorem scover0_C_2 (c : Dev nD) (i : grid0.Coords) (arg1 : Memref sig .tc .vmem S1024x128 .f32) (harg1 : arg1.IsWhole) (arg2 : Memref sig .tc .vmem S2048x128 .f32) (harg2 : arg2.IsWhole) (arg3 : Memref sig .tc .smem S1 .f32) (harg3 : arg3.IsWhole) (arg4 : Memref sig .tc .smem S1 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .i32) (harg9 : arg9.IsWhole) (hc0 : ¬cond0_0 i) (hc1 : cond0_1 i) (hc2 : ¬cond0_2 i) (hc3 : cond0_3 i)
    (x0 : Vec F S1024x128 .f32) (x1 : Vec F S2048x128 .f32) (x2 : Vec F S1 .f32) (x3 : Vec F S1 .f32) (xs0 : Vec F S1024x128 .bf16) (xs1 : Vec F S1024x128 .f32) (xs2 : Vec F S1024x128 .i32) (y : S1024x128.Idx) :
    ∃ pc ∈ (kernelRun0_C c i arg1 harg1 arg2 harg2 arg3 harg3 arg4 harg4 arg5 harg5 arg6 harg6 arg7 harg7 arg8 harg8 arg9 harg9 hc0 hc1 hc2 hc3 x0 x1 x2 x3 xs0 xs1 xs2).2.2.2.2.1, y ∈ pc.1.set :=
  View.cover_of_tiledL (kernelRun0_C c i arg1 harg1 arg2 harg2 arg3 harg3 arg4 harg4 arg5 harg5 arg6 harg6 arg7 harg7 arg8 harg8 arg9 harg9 hc0 hc1 hc2 hc3 x0 x1 x2 x3 xs0 xs1 xs2).2.2.2.2.1 S1024x128.size (by sl_kernel_rfl) y

/-- What case C leaves in scratch `arg9`: its pieces read back over junk. -/
def sout0_C_2 (c : Dev nD) (i : grid0.Coords) (arg1 : Memref sig .tc .vmem S1024x128 .f32) (harg1 : arg1.IsWhole) (arg2 : Memref sig .tc .vmem S2048x128 .f32) (harg2 : arg2.IsWhole) (arg3 : Memref sig .tc .smem S1 .f32) (harg3 : arg3.IsWhole) (arg4 : Memref sig .tc .smem S1 .f32) (harg4 : arg4.IsWhole) (arg5 : Memref sig .tc .vmem S1024x1 .i32) (harg5 : arg5.IsWhole) (arg6 : Memref sig .tc .vmem S1024x1 .f32) (harg6 : arg6.IsWhole) (arg7 : Memref sig .tc .vmem S1024x128 .bf16) (harg7 : arg7.IsWhole) (arg8 : Memref sig .tc .vmem S1024x128 .f32) (harg8 : arg8.IsWhole) (arg9 : Memref sig .tc .vmem S1024x128 .i32) (harg9 : arg9.IsWhole) (hc0 : ¬cond0_0 i) (hc1 : cond0_1 i) (hc2 : ¬cond0_2 i) (hc3 : cond0_3 i)
    (x0 : Vec F S1024x128 .f32) (x1 : Vec F S2048x128 .f32) (x2 : Vec F S1 .f32) (x3 : Vec F S1 .f32) (xs0 : Vec F S1024x128 .bf16) (xs1 : Vec F S1024x128 .f32) (xs2 : Vec F S1024x128 .i32) : Vec F S1024x128 .i32 :=
  VS0_2.read (Elt F) (VS0_2.writes (Elt F) VS0_2.junk (kernelRun0_C c i arg1 harg1 arg2 harg2 arg3 harg3 arg4 harg4 arg5 harg5 arg6 harg6 arg7 harg7 arg8 harg8 arg9 harg9 hc0 hc1 hc2 hc3 x0 x1 x2 x3 xs0 xs1 xs2).2.2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1024x1 .i32 × Vec F S1024x1 .f32 × Vec F S1024x128 .bf16 × Vec F S1024x128 .f32 × Vec F S1024x128 .i32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) ((hcond0_2 ⟨0, hn⟩).mpr (by (try dsimp only); omega)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩), out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) ((hcond0_2 ⟨0, hn⟩).mpr (by (try dsimp only); omega)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) ((hcond0_2 ⟨0, hn⟩).mpr (by (try dsimp only); omega)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) ((hcond0_2 ⟨0, hn⟩).mpr (by (try dsimp only); omega)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) ((hcond0_2 ⟨0, hn⟩).mpr (by (try dsimp only); omega)) (fun h => (fun h => by (try dsimp only at h); omega) ((hcond0_3 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 49 = 0 then
      if h1 : (n + 1) % 49 = 48 then
        False.elim (by have hN : n + 1 < 49 := lt_of_lt_of_eq hn (show cfg0.N = 49 from N_0); omega)
      else
        if h2 : (n + 1) < 48 then
          if h3 : (n + 1) % 49 = 48 then
            False.elim (by have hN : n + 1 < 49 := lt_of_lt_of_eq hn (show cfg0.N = 49 from N_0); omega)
          else
            (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩), out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩))
        else
          False.elim (by have hN : n + 1 < 49 := lt_of_lt_of_eq hn (show cfg0.N = 49 from N_0); omega)
    else
      if h1 : (n + 1) % 49 = 48 then
        if h2 : (n + 1) < 48 then
          False.elim (by have hN : n + 1 < 49 := lt_of_lt_of_eq hn (show cfg0.N = 49 from N_0); omega)
        else
          if h3 : (n + 1) % 49 = 48 then
            (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2)
          else
            False.elim (by have hN : n + 1 < 49 := lt_of_lt_of_eq hn (show cfg0.N = 49 from N_0); omega)
      else
        if h2 : (n + 1) < 48 then
          if h3 : (n + 1) % 49 = 48 then
            False.elim (by have hN : n + 1 < 49 := lt_of_lt_of_eq hn (show cfg0.N = 49 from N_0); omega)
          else
            (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2.2.1 (outsAt0 c n (Nat.lt_of_succ_lt hn)).2.2.2.1 (outsAt0 c n (Nat.lt_of_succ_lt hn)).2.2.2.2)
        else
          False.elim (by have hN : n + 1 < 49 := lt_of_lt_of_eq hn (show cfg0.N = 49 from N_0); omega)

/-- `outsAt0` at a point of case A: that case's contents. -/
theorem outsAt0_A (c : Dev nD) (t : Fin cfg0.N) (h0 : t.val % 49 = 0) (h1 : ¬t.val % 49 = 48) (h2 : t.val < 48) (h3 : ¬t.val % 49 = 48) :
    outsAt0 m c t.val t.isLt = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t)) := by
  obtain ⟨n, hn⟩ := t
  cases n with
  | zero => exact rfl
  | succ n => exact (dif_pos h0).trans ((dif_neg h1).trans ((dif_pos h2).trans ((dif_neg h3).trans rfl)))

/-- `outsAt0` at a point of case B: that case's contents, over what the point before left. -/
theorem outsAt0_B (c : Dev nD) (t : Fin cfg0.N) (h0 : ¬t.val % 49 = 0) (h1 : ¬t.val % 49 = 48) (h2 : t.val < 48) (h3 : ¬t.val % 49 = 48) :
    outsAt0 m c t.val t.isLt = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans rfl)))

/-- `outsAt0` at a point of case C: that case's contents, over what the point before left. -/
theorem outsAt0_C (c : Dev nD) (t : Fin cfg0.N) (h0 : ¬t.val % 49 = 0) (h1 : t.val % 49 = 48) (h2 : ¬t.val < 48) (h3 : t.val % 49 = 48) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans ((dif_neg h2).trans ((dif_pos h3).trans rfl)))

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2.1) ∗ owns (c : Thread nD τ) scM0_2 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2.1) ∗ owns (c : Thread nD τ) scM0_2 fullShare ((outsAt0 m c n hn).2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2.1) ∗ owns (c : Thread nD τ) scM0_2 fullShare ((outsAt0 m c (n - 1) (by omega)).2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 49 := lt_of_lt_of_eq t.isLt (show cfg0.N = 49 from N_0)
  by_cases h0 : t.val % 49 = 0
  · by_cases h1 : t.val % 49 = 48
    · exfalso; omega
    · by_cases h2 : t.val < 48
      · by_cases h3 : t.val % 49 = 48
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [Dat.leavesExact_idle (dats m 0 c) 4 t (idleAt0_4_A t ((hcond0_0 t).mpr h0) (fun h => h1 ((hcond0_1 t).mp h)) ((hcond0_2 t).mpr h2) (fun h => h3 ((hcond0_3 t).mp h))) (noFlush0_4_A t ((hcond0_0 t).mpr h0) (fun h => h1 ((hcond0_1 t).mp h)) ((hcond0_2 t).mpr h2) (fun h => h3 ((hcond0_3 t).mp h)))]
          rw [Dat.leavesExact_idle (dats m 0 c) 5 t (idleAt0_5_A t ((hcond0_0 t).mpr h0) (fun h => h1 ((hcond0_1 t).mp h)) ((hcond0_2 t).mpr h2) (fun h => h3 ((hcond0_3 t).mp h))) (noFlush0_5_A t ((hcond0_0 t).mpr h0) (fun h => h1 ((hcond0_1 t).mp h)) ((hcond0_2 t).mpr h2) (fun h => h3 ((hcond0_3 t).mp h)))]
          by_cases hz : t.val = 0
          · rw [PhiS_castSucc m c t, PhiS_zero m c _ _ hz, PhiA0_eq]
            rw [outsAt0_A m c t h0 h1 h2 h3]
            unfold sout0_A_0 sout0_A_1 sout0_A_2; (try dsimp only)
            iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
            iapply ((kernelRun0_A c (grid0.coords t) _ _ _ _ _ _ _ _ _ _ _ _ _ _ _ _ _ _ ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t)).2.2.2.2.2 _ _ Set.univ _)
            isplitl [H0]; · iexact H0
            isplitl [H1]; · iexact H1
            isplitl [H2]; · iexact H2
            isplitl [H3]; · iexact H3
            isplitl [H4]; · iexact H4
            isplitl [H5]; · iexact H5
            isplitl [HS0]; · iexact HS0
            isplitl [HS1]; · iexact HS1
            isplitl [HS2]; · iexact HS2
            iintro ⟨H0, H1, H2, H3, H4, H5, ⟨%es0, HS0⟩, ⟨%es1, HS1⟩, ⟨%es2, HS2⟩⟩
            isplitl [HS0 HS1 HS2 Hg]
            · isplitl [HS0 HS1 HS2]
              · isplitl [HS0]
                · unfold owns; iexists _; isplitr
                  swap; · iexact HS0
                  ipureintro; exact View.read_writes_of_cover _ _ _ _ _ (scover0_A_0 c _ _ _ _ _ _ _ _ _ _ _ _ _ _ _ _ _ _ _ _ _ _ _ _ _ _ _)
                isplitl [HS1]
                · unfold owns; iexists _; isplitr
                  swap; · iexact HS1
                  ipureintro; exact View.read_writes_of_cover _ _ _ _ _ (scover0_A_1 c _ _ _ _ _ _ _ _ _ _ _ _ _ _ _ _ _ _ _ _ _ _ _ _ _ _ _)
                unfold owns; iexists _; isplitr
                swap; · iexact HS2
                ipureintro; exact View.read_writes_of_cover _ _ _ _ _ (scover0_A_2 c _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexists _; iexact H4
            iexists _; iexact H5
          · exfalso; have hN : t.val < 49 := lt_of_lt_of_eq t.isLt (show cfg0.N = 49 from N_0); omega
      · exfalso; omega
  · by_cases h1 : t.val % 49 = 48
    · by_cases h2 : t.val < 48
      · exfalso; omega
      · by_cases h3 : t.val % 49 = 48
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4_C t (fun h => h0 ((hcond0_0 t).mp h)) ((hcond0_1 t).mpr h1) (fun h => h2 ((hcond0_2 t).mp h)) ((hcond0_3 t).mpr h3)], after0_4]
          rw [show (dats m 0 c).leavesExact 5 t = owns (c : Thread nD τ) (ms0_5 t) fullShare ((dats m 0 c).after 5 t) from by
      unfold Dat.leavesExact; rw [liveAt0_5_C t (fun h => h0 ((hcond0_0 t).mp h)) ((hcond0_1 t).mpr h1) (fun h => h2 ((hcond0_2 t).mp h)) ((hcond0_3 t).mpr h3)], after0_5]
          by_cases hz : t.val = 0
          · exfalso; have hN : t.val < 49 := lt_of_lt_of_eq t.isLt (show cfg0.N = 49 from N_0); omega
          · rw [PhiS_castSucc m c t, PhiS_pos m c _ _ hz]
            rw [outsAt0_C m c t h0 h1 h2 h3]
            unfold out0_C_4 out0_C_5 sout0_C_0 sout0_C_1 sout0_C_2; (try dsimp only)
            iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
            iapply ((kernelRun0_C c (grid0.coords t) _ _ _ _ _ _ _ _ _ _ _ _ _ _ _ _ _ _ (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) _ _ _).2.2.2.2.2 Set.univ _)
            isplitl [H0]; · iexact H0
            isplitl [H1]; · iexact H1
            isplitl [H2]; · iexact H2
            isplitl [H3]; · iexact H3
            isplitl [H4]; · iexists _; iexact H4
            isplitl [H5]; · iexists _; iexact H5
            isplitl [HS0]; · iexact HS0
            isplitl [HS1]; · iexact HS1
            isplitl [HS2]; · iexact HS2
            iintro ⟨H0, H1, H2, H3, ⟨%e4, H4⟩, ⟨%e5, H5⟩, HS0, ⟨%es1, HS1⟩, ⟨%es2, HS2⟩⟩
            isplitl [HS0 HS1 HS2 Hg]
            · isplitl [HS0 HS1 HS2]
              · isplitl [HS0]
                · iexact HS0
                isplitl [HS1]
                · unfold owns; iexists _; isplitr
                  swap; · iexact HS1
                  ipureintro; exact View.read_writes_of_cover _ _ _ _ _ (scover0_C_1 c _ _ _ _ _ _ _ _ _ _ _ _ _ _ _ _ _ _ _ _ _ _ _ _ _ _ _ _ _ _)
                unfold owns; iexists _; isplitr
                swap; · iexact HS2
                ipureintro; exact View.read_writes_of_cover _ _ _ _ _ (scover0_C_2 c _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]
            · unfold owns; iexists _; isplitr
              swap; · iexact H4
              ipureintro; exact View.read_writes_of_cover _ _ _ _ _ (cover0_C_4 c _ _ _ _ _ _ _ _ _ _ _ _ _ _ _ _ _ _ _ _ _ _ _ _ _ _ _ _ _ _)
            unfold owns; iexists _; isplitr
            swap; · iexact H5
            ipureintro; exact View.read_writes_of_cover _ _ _ _ _ (cover0_C_5 c _ _ _ _ _ _ _ _ _ _ _ _ _ _ _ _ _ _ _ _ _ _ _ _ _ _ _ _ _ _)
        · exfalso; omega
    · by_cases h2 : t.val < 48
      · by_cases h3 : t.val % 49 = 48
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [Dat.leavesExact_idle (dats m 0 c) 4 t (idleAt0_4_B t (fun h => h0 ((hcond0_0 t).mp h)) (fun h => h1 ((hcond0_1 t).mp h)) ((hcond0_2 t).mpr h2) (fun h => h3 ((hcond0_3 t).mp h))) (noFlush0_4_B t (fun h => h0 ((hcond0_0 t).mp h)) (fun h => h1 ((hcond0_1 t).mp h)) ((hcond0_2 t).mpr h2) (fun h => h3 ((hcond0_3 t).mp h)))]
          rw [Dat.leavesExact_idle (dats m 0 c) 5 t (idleAt0_5_B t (fun h => h0 ((hcond0_0 t).mp h)) (fun h => h1 ((hcond0_1 t).mp h)) ((hcond0_2 t).mpr h2) (fun h => h3 ((hcond0_3 t).mp h))) (noFlush0_5_B t (fun h => h0 ((hcond0_0 t).mp h)) (fun h => h1 ((hcond0_1 t).mp h)) ((hcond0_2 t).mpr h2) (fun h => h3 ((hcond0_3 t).mp h)))]
          by_cases hz : t.val = 0
          · exfalso; have hN : t.val < 49 := lt_of_lt_of_eq t.isLt (show cfg0.N = 49 from N_0); omega
          · rw [PhiS_castSucc m c t, PhiS_pos m c _ _ hz]
            rw [outsAt0_B m c t h0 h1 h2 h3]
            unfold sout0_B_0 sout0_B_1 sout0_B_2; (try dsimp only)
            iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
            iapply ((kernelRun0_B c (grid0.coords t) _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) _ _ _).2.2.2.2.2 _ _ Set.univ _)
            isplitl [H0]; · iexact H0
            isplitl [H1]; · iexact H1
            isplitl [H2]; · iexact H2
            isplitl [H3]; · iexact H3
            isplitl [H4]; · iexact H4
            isplitl [H5]; · iexact H5
            isplitl [HS0]; · iexact HS0
            isplitl [HS1]; · iexact HS1
            isplitl [HS2]; · iexact HS2
            iintro ⟨H0, H1, H2, H3, H4, H5, HS0, ⟨%es1, HS1⟩, ⟨%es2, HS2⟩⟩
            isplitl [HS0 HS1 HS2 Hg]
            · isplitl [HS0 HS1 HS2]
              · isplitl [HS0]
                · iexact HS0
                isplitl [HS1]
                · unfold owns; iexists _; isplitr
                  swap; · iexact HS1
                  ipureintro; exact View.read_writes_of_cover _ _ _ _ _ (scover0_B_1 c _ _ _ _ _ _ _ _ _ _ _ _ _ _ _ _ _ _ _ _ _ _ _ _ _ _ _ _ _ _)
                unfold owns; iexists _; isplitr
                swap; · iexact HS2
                ipureintro; exact View.read_writes_of_cover _ _ _ _ _ (scover0_B_2 c _ _ _ _ _ _ _ _ _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]; · iexact H3
            isplitl [H4]; · iexists _; iexact H4
            iexists _; iexact H5
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 49 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- THE FRAME: `Cert.quiescent_KernelIdeal`'s statement (Defs.lean) at any `F` — Proof.lean cites it at `Bits`: -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Carry

end
-- ==== Proof.Cases.lean ====
/-
  What each kind of grid point leaves behind, as values: the scaled and signed queries and the empty record at the
  first point, the record carried one tile on at every point, and the two results at the last.

  The pieces each run stored are read back here as the stored values of the blocks the run was given. Nothing is
  computed: the right sides are the kernel's own stored values.
-/
module

public import proofs.«01_k».proof.Proof.Carry.KernelIdeal.Frame
public import Idealize.ShloMosaic.Lib.Pipeline.Value
public import Idealize.ShloMosaic.Lib.Tactic

@[expose] public section

set_option maxRecDepth 16384

noncomputable section

open Idealize.ShloMosaic Idealize.ShloMosaic.TcCoe Idealize.SL.Sem

namespace Cert.KernelIdeal.Cases

open Cert.KernelIdeal.Gen Cert.KernelIdeal.Carry

variable {F : FTy → Type} [FloatOps F]

/-- The offset of every whole access. -/
theorem hz : (![0, 0] : Fin 2 → Nat) = fun _ => 0 := funext fun a => by fin_cases a <;> rfl

/-- The one number of a one-element block. -/
def only (x : Vec F S1 .f32) : F .f32 := View.ld x (Rect.unit ![0] ![1] inb_S1_S1_0) (Shape.Idx.first (by decide))

/-- The number of the grid point, as the kernel reads it. -/
abbrev pt (i : grid0.Coords) : BitVec 32 := BitVec.ofNat 32 (i 0).val

/-- The record's values after a whole tile. -/
def wholeM (tile : FVec F S1024x2048 .f32) (mx : Vec F S1024x128 .f32) : FVec F S1024x128 .f32 :=
  k0_pay10 (k0_pay82 tile (k0_pay62 tile mx) (k0_pay63 tile))

/-- The record's chunk numbers after a whole tile. -/
def wholeI (p : BitVec 32) (tile : FVec F S1024x2048 .f32) (mx : Vec F S1024x128 .f32) (ix : Vec F S1024x128 .i32) :
    IVec S1024x128 32 :=
  k0_pay11 (k0_pay81 tile (Scalar.muli p 16#32) (k0_pay61 p tile mx ix) (k0_pay62 tile mx) (k0_pay63 tile)
    (k0_pay64 tile mx) 7#32)

/-- The record's values after the last tile, whose columns past the keys are masked. -/
def lastM (p : BitVec 32) (tile : FVec F S1024x2048 .f32) (mx : Vec F S1024x128 .f32) : FVec F S1024x128 .f32 :=
  k0_pay8 (k0_pay15 p tile) (k0_pay45 (k0_pay15 p tile) (k0_pay25 p tile mx) (k0_pay26 p tile)) (k0_pay46 (k0_pay15 p tile))

/-- The record's chunk numbers after the last tile. -/
def lastI (p : BitVec 32) (tile : FVec F S1024x2048 .f32) (mx : Vec F S1024x128 .f32) (ix : Vec F S1024x128 .i32) :
    IVec S1024x128 32 :=
  k0_pay9 (k0_pay15 p tile) (Scalar.muli p 16#32)
    (k0_pay44 (k0_pay15 p tile) (Scalar.muli p 16#32) (k0_pay25 p tile mx) (k0_pay26 p tile) (k0_pay27 p tile mx ix))
    (k0_pay45 (k0_pay15 p tile) (k0_pay25 p tile mx) (k0_pay26 p tile)) (k0_pay46 (k0_pay15 p tile))
    (k0_pay47 (k0_pay15 p tile) (k0_pay25 p tile mx) (k0_pay26 p tile)) 14#32

/-- First point: the scaled queries, with the weight's sign. -/
theorem sout_A_0 (c : Dev nD) (i : grid0.Coords) (a1 : Memref sig .tc .vmem S1024x128 .f32) (h1 : a1.IsWhole) (a2 : Memref sig .tc .vmem S2048x128 .f32) (h2 : a2.IsWhole) (a3 : Memref sig .tc .smem S1 .f32) (h3 : a3.IsWhole) (a4 : Memref sig .tc .smem S1 .f32) (h4 : a4.IsWhole) (a5 : Memref sig .tc .vmem S1024x1 .i32) (h5 : a5.IsWhole)
    (a6 : Memref sig .tc .vmem S1024x1 .f32) (h6 : a6.IsWhole) (a7 : Memref sig .tc .vmem S1024x128 .bf16) (h7 : a7.IsWhole) (a8 : Memref sig .tc .vmem S1024x128 .f32) (h8 : a8.IsWhole) (a9 : Memref sig .tc .vmem S1024x128 .i32) (h9 : a9.IsWhole)
    (hc0 : cond0_0 i) (hc1 : ¬cond0_1 i) (hc2 : cond0_2 i) (hc3 : ¬cond0_3 i)
    (x0 : Vec F S1024x128 .f32) (x1 : Vec F S2048x128 .f32) (x2 : Vec F S1 .f32) (x3 : Vec F S1 .f32) :
    sout0_A_0 c i a1 h1 a2 h2 a3 h3 a4 h4 a5 h5 a6 h6 a7 h7 a8 h8 a9 h9 hc0 hc1 hc2 hc3 x0 x1 x2 x3 = k0_pay2 (only x2) x0 := by
  unfold sout0_A_0
  rw [View.read_writes_eq_canon _ _ _ (scover0_A_0 c i a1 h1 a2 h2 a3 h3 a4 h4 a5 h5 a6 h6 a7 h7 a8 h8 a9 h9 hc0 hc1 hc2 hc3 x0 x1 x2 x3)]
  unfold kernelRun0_A
  dsimp only
  sl_unfold_words
  rw [View.canon_cons_unit_zero (S := S1024x128) hz]
  simp only [View.readAt_eq_ld, h1.read_unread, h2.read_unread, h3.read_unread, h4.read_unread, h7.read_unread,
    h8.read_unread, h9.read_unread, View.ld_unit_zero (S := S1024x128) hz, View.ld_unit_zero (S := S2048x128) hz,
    View.readCov_unit_zero (S := S1024x128) _ hz, View.canon_cons_unit_zero (S := S1024x128) hz]
  rfl

/-- First point: the record's values, from the empty record. -/
theorem sout_A_1 (c : Dev nD) (i : grid0.Coords) (a1 : Memref sig .tc .vmem S1024x128 .f32) (h1 : a1.IsWhole) (a2 : Memref sig .tc .vmem S2048x128 .f32) (h2 : a2.IsWhole) (a3 : Memref sig .tc .smem S1 .f32) (h3 : a3.IsWhole) (a4 : Memref sig .tc .smem S1 .f32) (h4 : a4.IsWhole) (a5 : Memref sig .tc .vmem S1024x1 .i32) (h5 : a5.IsWhole)
    (a6 : Memref sig .tc .vmem S1024x1 .f32) (h6 : a6.IsWhole) (a7 : Memref sig .tc .vmem S1024x128 .bf16) (h7 : a7.IsWhole) (a8 : Memref sig .tc .vmem S1024x128 .f32) (h8 : a8.IsWhole) (a9 : Memref sig .tc .vmem S1024x128 .i32) (h9 : a9.IsWhole)
    (hc0 : cond0_0 i) (hc1 : ¬cond0_1 i) (hc2 : cond0_2 i) (hc3 : ¬cond0_3 i)
    (x0 : Vec F S1024x128 .f32) (x1 : Vec F S2048x128 .f32) (x2 : Vec F S1 .f32) (x3 : Vec F S1 .f32) :
    sout0_A_1 c i a1 h1 a2 h2 a3 h3 a4 h4 a5 h5 a6 h6 a7 h7 a8 h8 a9 h9 hc0 hc1 hc2 hc3 x0 x1 x2 x3 = wholeM (k0_pay5 x1 (k0_pay2 (only x2) x0)) k0_pay3 := by
  unfold sout0_A_1
  rw [View.read_writes_eq_canon _ _ _ (scover0_A_1 c i a1 h1 a2 h2 a3 h3 a4 h4 a5 h5 a6 h6 a7 h7 a8 h8 a9 h9 hc0 hc1 hc2 hc3 x0 x1 x2 x3)]
  unfold kernelRun0_A
  dsimp only
  sl_unfold_words
  rw [View.canon_cons_unit_zero (S := S1024x128) hz]
  simp only [View.readAt_eq_ld, h1.read_unread, h2.read_unread, h3.read_unread, h4.read_unread, h7.read_unread,
    h8.read_unread, h9.read_unread, View.ld_unit_zero (S := S1024x128) hz, View.ld_unit_zero (S := S2048x128) hz,
    View.readCov_unit_zero (S := S1024x128) _ hz, View.canon_cons_unit_zero (S := S1024x128) hz]
  rfl

/-- First point: the record's chunk numbers. -/
theorem sout_A_2 (c : Dev nD) (i : grid0.Coords) (a1 : Memref sig .tc .vmem S1024x128 .f32) (h1 : a1.IsWhole) (a2 : Memref sig .tc .vmem S2048x128 .f32) (h2 : a2.IsWhole) (a3 : Memref sig .tc .smem S1 .f32) (h3 : a3.IsWhole) (a4 : Memref sig .tc .smem S1 .f32) (h4 : a4.IsWhole) (a5 : Memref sig .tc .vmem S1024x1 .i32) (h5 : a5.IsWhole)
    (a6 : Memref sig .tc .vmem S1024x1 .f32) (h6 : a6.IsWhole) (a7 : Memref sig .tc .vmem S1024x128 .bf16) (h7 : a7.IsWhole) (a8 : Memref sig .tc .vmem S1024x128 .f32) (h8 : a8.IsWhole) (a9 : Memref sig .tc .vmem S1024x128 .i32) (h9 : a9.IsWhole)
    (hc0 : cond0_0 i) (hc1 : ¬cond0_1 i) (hc2 : cond0_2 i) (hc3 : ¬cond0_3 i)
    (x0 : Vec F S1024x128 .f32) (x1 : Vec F S2048x128 .f32) (x2 : Vec F S1 .f32) (x3 : Vec F S1 .f32) :
    sout0_A_2 c i a1 h1 a2 h2 a3 h3 a4 h4 a5 h5 a6 h6 a7 h7 a8 h8 a9 h9 hc0 hc1 hc2 hc3 x0 x1 x2 x3 = wholeI (pt i) (k0_pay5 x1 (k0_pay2 (only x2) x0)) k0_pay3 k0_pay4 := by
  unfold sout0_A_2
  rw [View.read_writes_eq_canon _ _ _ (scover0_A_2 c i a1 h1 a2 h2 a3 h3 a4 h4 a5 h5 a6 h6 a7 h7 a8 h8 a9 h9 hc0 hc1 hc2 hc3 x0 x1 x2 x3)]
  unfold kernelRun0_A
  dsimp only
  sl_unfold_words
  rw [View.canon_cons_unit_zero (S := S1024x128) hz]
  simp only [View.readAt_eq_ld, h1.read_unread, h2.read_unread, h3.read_unread, h4.read_unread, h7.read_unread,
    h8.read_unread, h9.read_unread, View.ld_unit_zero (S := S1024x128) hz, View.ld_unit_zero (S := S2048x128) hz,
    View.readCov_unit_zero (S := S1024x128) _ hz, View.canon_cons_unit_zero (S := S1024x128) hz]
  rfl

/-- A middle point: the record's values. -/
theorem sout_B_1 (c : Dev nD) (i : grid0.Coords) (a1 : Memref sig .tc .vmem S1024x128 .f32) (h1 : a1.IsWhole) (a2 : Memref sig .tc .vmem S2048x128 .f32) (h2 : a2.IsWhole) (a3 : Memref sig .tc .smem S1 .f32) (h3 : a3.IsWhole) (a4 : Memref sig .tc .smem S1 .f32) (h4 : a4.IsWhole) (a5 : Memref sig .tc .vmem S1024x1 .i32) (h5 : a5.IsWhole)
    (a6 : Memref sig .tc .vmem S1024x1 .f32) (h6 : a6.IsWhole) (a7 : Memref sig .tc .vmem S1024x128 .bf16) (h7 : a7.IsWhole) (a8 : Memref sig .tc .vmem S1024x128 .f32) (h8 : a8.IsWhole) (a9 : Memref sig .tc .vmem S1024x128 .i32) (h9 : a9.IsWhole)
    (hc0 : ¬cond0_0 i) (hc1 : ¬cond0_1 i) (hc2 : cond0_2 i) (hc3 : ¬cond0_3 i)
    (x0 : Vec F S1024x128 .f32) (x1 : Vec F S2048x128 .f32) (x2 : Vec F S1 .f32) (x3 : Vec F S1 .f32)
    (q : Vec F S1024x128 .bf16) (mx : Vec F S1024x128 .f32) (ix : Vec F S1024x128 .i32) :
    sout0_B_1 c i a1 h1 a2 h2 a3 h3 a4 h4 a5 h5 a6 h6 a7 h7 a8 h8 a9 h9 hc0 hc1 hc2 hc3 x0 x1 x2 x3 q mx ix = wholeM (k0_pay5 x1 q) mx := by
  unfold sout0_B_1
  rw [View.read_writes_eq_canon _ _ _ (scover0_B_1 c i a1 h1 a2 h2 a3 h3 a4 h4 a5 h5 a6 h6 a7 h7 a8 h8 a9 h9 hc0 hc1 hc2 hc3 x0 x1 x2 x3 q mx ix)]
  unfold kernelRun0_B
  dsimp only
  sl_unfold_words
  rw [View.canon_cons_unit_zero (S := S1024x128) hz]
  simp only [View.readAt_eq_ld, h1.read_unread, h2.read_unread, h3.read_unread, h4.read_unread, h7.read_unread,
    h8.read_unread, h9.read_unread, View.ld_unit_zero (S := S1024x128) hz, View.ld_unit_zero (S := S2048x128) hz,
    View.readCov_unit_zero (S := S1024x128) _ hz, View.canon_cons_unit_zero (S := S1024x128) hz]
  rfl

/-- A middle point: the record's chunk numbers. -/
theorem sout_B_2 (c : Dev nD) (i : grid0.Coords) (a1 : Memref sig .tc .vmem S1024x128 .f32) (h1 : a1.IsWhole) (a2 : Memref sig .tc .vmem S2048x128 .f32) (h2 : a2.IsWhole) (a3 : Memref sig .tc .smem S1 .f32) (h3 : a3.IsWhole) (a4 : Memref sig .tc .smem S1 .f32) (h4 : a4.IsWhole) (a5 : Memref sig .tc .vmem S1024x1 .i32) (h5 : a5.IsWhole)
    (a6 : Memref sig .tc .vmem S1024x1 .f32) (h6 : a6.IsWhole) (a7 : Memref sig .tc .vmem S1024x128 .bf16) (h7 : a7.IsWhole) (a8 : Memref sig .tc .vmem S1024x128 .f32) (h8 : a8.IsWhole) (a9 : Memref sig .tc .vmem S1024x128 .i32) (h9 : a9.IsWhole)
    (hc0 : ¬cond0_0 i) (hc1 : ¬cond0_1 i) (hc2 : cond0_2 i) (hc3 : ¬cond0_3 i)
    (x0 : Vec F S1024x128 .f32) (x1 : Vec F S2048x128 .f32) (x2 : Vec F S1 .f32) (x3 : Vec F S1 .f32)
    (q : Vec F S1024x128 .bf16) (mx : Vec F S1024x128 .f32) (ix : Vec F S1024x128 .i32) :
    sout0_B_2 c i a1 h1 a2 h2 a3 h3 a4 h4 a5 h5 a6 h6 a7 h7 a8 h8 a9 h9 hc0 hc1 hc2 hc3 x0 x1 x2 x3 q mx ix = wholeI (pt i) (k0_pay5 x1 q) mx ix := by
  unfold sout0_B_2
  rw [View.read_writes_eq_canon _ _ _ (scover0_B_2 c i a1 h1 a2 h2 a3 h3 a4 h4 a5 h5 a6 h6 a7 h7 a8 h8 a9 h9 hc0 hc1 hc2 hc3 x0 x1 x2 x3 q mx ix)]
  unfold kernelRun0_B
  dsimp only
  sl_unfold_words
  rw [View.canon_cons_unit_zero (S := S1024x128) hz]
  simp only [View.readAt_eq_ld, h1.read_unread, h2.read_unread, h3.read_unread, h4.read_unread, h7.read_unread,
    h8.read_unread, h9.read_unread, View.ld_unit_zero (S := S1024x128) hz, View.ld_unit_zero (S := S2048x128) hz,
    View.readCov_unit_zero (S := S1024x128) _ hz, View.canon_cons_unit_zero (S := S1024x128) hz]
  rfl

/-- The last point: the labels. -/
theorem out_C_4 (c : Dev nD) (i : grid0.Coords) (a1 : Memref sig .tc .vmem S1024x128 .f32) (h1 : a1.IsWhole) (a2 : Memref sig .tc .vmem S2048x128 .f32) (h2 : a2.IsWhole) (a3 : Memref sig .tc .smem S1 .f32) (h3 : a3.IsWhole) (a4 : Memref sig .tc .smem S1 .f32) (h4 : a4.IsWhole) (a5 : Memref sig .tc .vmem S1024x1 .i32) (h5 : a5.IsWhole)
    (a6 : Memref sig .tc .vmem S1024x1 .f32) (h6 : a6.IsWhole) (a7 : Memref sig .tc .vmem S1024x128 .bf16) (h7 : a7.IsWhole) (a8 : Memref sig .tc .vmem S1024x128 .f32) (h8 : a8.IsWhole) (a9 : Memref sig .tc .vmem S1024x128 .i32) (h9 : a9.IsWhole)
    (hc0 : ¬cond0_0 i) (hc1 : cond0_1 i) (hc2 : ¬cond0_2 i) (hc3 : cond0_3 i)
    (x0 : Vec F S1024x128 .f32) (x1 : Vec F S2048x128 .f32) (x2 : Vec F S1 .f32) (x3 : Vec F S1 .f32)
    (q : Vec F S1024x128 .bf16) (mx : Vec F S1024x128 .f32) (ix : Vec F S1024x128 .i32) :
    out0_C_4 c i a1 h1 a2 h2 a3 h3 a4 h4 a5 h5 a6 h6 a7 h7 a8 h8 a9 h9 hc0 hc1 hc2 hc3 x0 x1 x2 x3 q mx ix = k0_pay14 (only x2) (only x3) (lastM (pt i) (k0_pay5 x1 q) mx) (lastI (pt i) (k0_pay5 x1 q) mx ix) := by
  unfold out0_C_4
  rw [View.read_writes_eq_canon _ _ _ (cover0_C_4 c i a1 h1 a2 h2 a3 h3 a4 h4 a5 h5 a6 h6 a7 h7 a8 h8 a9 h9 hc0 hc1 hc2 hc3 x0 x1 x2 x3 q mx ix)]
  unfold kernelRun0_C
  dsimp only
  sl_unfold_words
  rw [View.canon_cons_unit_zero (S := S1024x1) hz]
  simp only [View.readAt_eq_ld, h1.read_unread, h2.read_unread, h3.read_unread, h4.read_unread, h7.read_unread,
    h8.read_unread, h9.read_unread, View.ld_unit_zero (S := S1024x128) hz, View.ld_unit_zero (S := S2048x128) hz,
    View.readCov_unit_zero (S := S1024x128) _ hz, View.canon_cons_unit_zero (S := S1024x128) hz]
  rfl

/-- The last point: the distances. -/
theorem out_C_5 (c : Dev nD) (i : grid0.Coords) (a1 : Memref sig .tc .vmem S1024x128 .f32) (h1 : a1.IsWhole) (a2 : Memref sig .tc .vmem S2048x128 .f32) (h2 : a2.IsWhole) (a3 : Memref sig .tc .smem S1 .f32) (h3 : a3.IsWhole) (a4 : Memref sig .tc .smem S1 .f32) (h4 : a4.IsWhole) (a5 : Memref sig .tc .vmem S1024x1 .i32) (h5 : a5.IsWhole)
    (a6 : Memref sig .tc .vmem S1024x1 .f32) (h6 : a6.IsWhole) (a7 : Memref sig .tc .vmem S1024x128 .bf16) (h7 : a7.IsWhole) (a8 : Memref sig .tc .vmem S1024x128 .f32) (h8 : a8.IsWhole) (a9 : Memref sig .tc .vmem S1024x128 .i32) (h9 : a9.IsWhole)
    (hc0 : ¬cond0_0 i) (hc1 : cond0_1 i) (hc2 : ¬cond0_2 i) (hc3 : cond0_3 i)
    (x0 : Vec F S1024x128 .f32) (x1 : Vec F S2048x128 .f32) (x2 : Vec F S1 .f32) (x3 : Vec F S1 .f32)
    (q : Vec F S1024x128 .bf16) (mx : Vec F S1024x128 .f32) (ix : Vec F S1024x128 .i32) :
    out0_C_5 c i a1 h1 a2 h2 a3 h3 a4 h4 a5 h5 a6 h6 a7 h7 a8 h8 a9 h9 hc0 hc1 hc2 hc3 x0 x1 x2 x3 q mx ix = k0_pay13 (only x2) (only x3) (lastM (pt i) (k0_pay5 x1 q) mx) := by
  unfold out0_C_5
  rw [View.read_writes_eq_canon _ _ _ (cover0_C_5 c i a1 h1 a2 h2 a3 h3 a4 h4 a5 h5 a6 h6 a7 h7 a8 h8 a9 h9 hc0 hc1 hc2 hc3 x0 x1 x2 x3 q mx ix)]
  unfold kernelRun0_C
  dsimp only
  sl_unfold_words
  rw [View.canon_cons_unit_zero (S := S1024x1) hz]
  simp only [View.readAt_eq_ld, h1.read_unread, h2.read_unread, h3.read_unread, h4.read_unread, h7.read_unread,
    h8.read_unread, h9.read_unread, View.ld_unit_zero (S := S1024x128) hz, View.ld_unit_zero (S := S2048x128) hz,
    View.readCov_unit_zero (S := S1024x128) _ hz, View.canon_cons_unit_zero (S := S1024x128) hz]
  rfl

end Cert.KernelIdeal.Cases

end
-- ==== Proof.FirstMax.lean ====
/-
  The first position of the greatest value, and the running record of it.

  `IsFirst s n c` says that among the positions below `n` the value `s` is greatest at `c`, and at no earlier position
  as great. `scan` is the kernel's running record of one lane: the greatest value so far, and the position at which it
  was first met. `lanes` puts 128 lanes together: of the lanes whose record is the greatest value, the smallest
  position recorded is the first position of the whole row.
-/
module

public import Idealize.ShloMosaic.PureOps.Ideal
public import Idealize.ShloMosaic.Lib.SortFacts

@[expose] public section

noncomputable section

open Idealize.ShloMosaic

namespace Cert.Nearest

/-- Among the positions below `n`, the value `s` is greatest at `c`, and smaller at every earlier position. -/
def IsFirst (s : ℕ → EReal) (n c : ℕ) : Prop := c < n ∧ (∀ k < n, s k ≤ s c) ∧ ∀ k < c, s k < s c

/-- The first position of the greatest value exists. -/
theorem exists_isFirst (s : ℕ → EReal) : ∀ n : ℕ, ∃ c, IsFirst s (n + 1) c
  | 0 => ⟨0, Nat.zero_lt_one, fun k hk => by obtain rfl : k = 0 := (by omega); exact le_rfl,
      fun k hk => absurd hk (Nat.not_lt_zero k)⟩
  | n + 1 => by
    obtain ⟨c, hc, hle, hlt⟩ := exists_isFirst s n
    by_cases h : s c < s (n + 1)
    · refine ⟨n + 1, Nat.lt_succ_self _, fun k hk => ?_, fun k hk => lt_of_le_of_lt (hle k hk) h⟩
      rcases Nat.lt_succ_iff_lt_or_eq.mp hk with hk | rfl
      · exact (lt_of_le_of_lt (hle k hk) h).le
      · exact le_rfl
    · refine ⟨c, by omega, fun k hk => ?_, hlt⟩
      rcases Nat.lt_succ_iff_lt_or_eq.mp hk with hk | rfl
      · exact hle k hk
      · exact not_lt.mp h

/-- One lane's running record after `n` values: the greatest so far, and where it was first met. -/
def scan (f : ℕ → EReal) : ℕ → EReal × ℕ
  | 0 => (⊥, 0)
  | n + 1 => (max (scan f n).1 (f n), if (scan f n).1 < f n then n else (scan f n).2)

/-- What the record says: it bounds every value met, and it is either still empty or holds the first position of the
    greatest value. -/
theorem scan_spec (f : ℕ → EReal) (n : ℕ) :
    (∀ k < n, f k ≤ (scan f n).1)
      ∧ (((scan f n).1 = ⊥ ∧ (scan f n).2 = 0) ∨ (IsFirst f n (scan f n).2 ∧ f (scan f n).2 = (scan f n).1)) := by
  induction n with
  | zero => exact ⟨fun k hk => absurd hk (Nat.not_lt_zero k), Or.inl ⟨rfl, rfl⟩⟩
  | succ n ih =>
    obtain ⟨hle, hor⟩ := ih
    by_cases h : (scan f n).1 < f n
    · have e : scan f (n + 1) = (f n, n) := by
        show (max (scan f n).1 (f n), if (scan f n).1 < f n then n else (scan f n).2) = _
        rw [if_pos h, max_eq_right h.le]
      rw [e]
      have hb : ∀ k < n + 1, f k ≤ f n := fun k hk => by
        rcases Nat.lt_succ_iff_lt_or_eq.mp hk with hk | rfl
        · exact ((hle k hk).trans_lt h).le
        · exact le_rfl
      exact ⟨hb, Or.inr ⟨⟨Nat.lt_succ_self n, hb, fun k hk => (hle k hk).trans_lt h⟩, rfl⟩⟩
    · have e : scan f (n + 1) = scan f n := by
        show (max (scan f n).1 (f n), if (scan f n).1 < f n then n else (scan f n).2) = _
        rw [if_neg h, max_eq_left (not_lt.mp h)]
      rw [e]
      have hb : ∀ k < n + 1, f k ≤ (scan f n).1 := fun k hk => by
        rcases Nat.lt_succ_iff_lt_or_eq.mp hk with hk | rfl
        · exact hle k hk
        · exact not_lt.mp h
      refine ⟨hb, hor.imp id fun ⟨⟨hc, _, hlt⟩, he⟩ => ⟨⟨by omega, fun k hk => he ▸ hb k hk, hlt⟩, he⟩⟩

/-- A row of `n · 128` values kept as 128 lane records. -/
def lane (s : ℕ → EReal) (n l : ℕ) : EReal × ℕ := scan (fun g => s (g * 128 + l)) n

/-- A lane's record never passes the row's greatest value. -/
theorem lane_le {s : ℕ → EReal} {n c : ℕ} (h : IsFirst s (n * 128) c) {l : ℕ} (hl : l < 128) : (lane s n l).1 ≤ s c := by
  rcases (scan_spec (fun g => s (g * 128 + l)) n).2 with ⟨e, _⟩ | ⟨⟨ht, _, _⟩, he⟩
  · exact e.le.trans bot_le
  · exact he.symm.le.trans (h.2.1 _ (by show (scan (fun g => s (g * 128 + l)) n).2 * 128 + l < n * 128; omega))

/-- A lane whose record is the row's greatest value holds a position at or past the row's first. -/
theorem le_lane {s : ℕ → EReal} {n c : ℕ} (h : IsFirst s (n * 128) c) (hb : ⊥ < s c) {l : ℕ}
    (he : (lane s n l).1 = s c) : c ≤ (lane s n l).2 * 128 + l ∧ (lane s n l).2 < n := by
  rcases (scan_spec (fun g => s (g * 128 + l)) n).2 with ⟨e, _⟩ | ⟨⟨ht, _, _⟩, e⟩
  · exact absurd (he.symm.trans e) hb.ne'
  · refine ⟨not_lt.mp fun hlt => ?_, ht⟩
    exact absurd (h.2.2 _ hlt) (e.trans he).symm.le.not_gt

/-- The lane of the row's first position records it. -/
theorem lane_first {s : ℕ → EReal} {n c : ℕ} (h : IsFirst s (n * 128) c) (hb : ⊥ < s c) :
    (lane s n (c % 128)).1 = s c ∧ (lane s n (c % 128)).2 * 128 + c % 128 = c := by
  have hl : c % 128 < 128 := Nat.mod_lt _ (by decide)
  have hc := h.1
  have hcc : c / 128 * 128 + c % 128 = c := by omega
  have hm : (lane s n (c % 128)).1 = s c := by
    refine le_antisymm (lane_le h hl) ?_
    have := (scan_spec (fun g => s (g * 128 + c % 128)) n).1 (c / 128) (by omega)
    simp only [hcc] at this
    exact this
  refine ⟨hm, ?_⟩
  have h1 := (le_lane h hb hm).1
  rcases (scan_spec (fun g => s (g * 128 + c % 128)) n).2 with ⟨e, _⟩ | ⟨⟨_, _, hlt⟩, e⟩
  · exact absurd (hm.symm.trans e) hb.ne'
  · have h2 : ¬ c / 128 < (lane s n (c % 128)).2 := fun hh => by
      have := hlt _ hh
      simp only [hcc] at this
      exact absurd this (e.trans hm).le.not_gt
    omega

/-! ## The first of a stable sort -/

/-- An element before which nothing sorts is inserted at the head. -/
theorem head_insert_of_not {ι : Type} (before : ι → ι → Bool) (a : ι) (l : List ι)
    (h : ∀ b ∈ l, before b a = false) : (insertBefore before a l).head? = some a := by
  cases l with
  | nil => rfl
  | cons b l => simp [insertBefore, h b List.mem_cons_self]

/-- A head that sorts strictly before the element inserted stays at the head. -/
theorem head_insert_of_lt {ι : Type} (before : ι → ι → Bool) (a c : ι) (l : List ι) (hc : l.head? = some c)
    (h : before c a = true) : (insertBefore before a l).head? = some c := by
  cases l with
  | nil => exact absurd hc (by simp)
  | cons b l =>
    obtain rfl : b = c := by simpa using hc
    simp [insertBefore, h]

/-- A stable sort puts first the element that none sorts before and that sorts before all earlier ones. -/
theorem head_stableSort {n : ℕ} (before : Fin n → Fin n → Bool) (c : Fin n) : ∀ l : List (Fin n), l.Pairwise (· < ·) →
    c ∈ l → (∀ k ∈ l, before k c = false) → (∀ k ∈ l, k < c → before c k = true) → (stableSort before l).head? = some c
  | [], _, hc, _, _ => absurd hc (by simp)
  | a :: l, hp, hc, h1, h2 => by
    obtain ⟨ha, hp⟩ := List.pairwise_cons.mp hp
    rcases List.mem_cons.mp hc with rfl | hc
    · refine head_insert_of_not _ _ _ fun b hb => h1 b (List.mem_cons_of_mem _ ?_)
      exact (perm_stableSort before l).mem_iff.mp hb
    · refine head_insert_of_lt _ _ _ _ (head_stableSort before c l hp hc (fun k hk => h1 k (List.mem_cons_of_mem _ hk))
        fun k hk => h2 k (List.mem_cons_of_mem _ hk)) (h2 a List.mem_cons_self (ha c hc))

/-- So position 0 of the sorted line comes from it. -/
theorem sortedFrom_zero {n : ℕ} (before : Fin n → Fin n → Bool) (c : Fin n) (h1 : ∀ k, before k c = false)
    (h2 : ∀ k, k < c → before c k = true) (z : Fin n) (hz : z.val = 0) : sortedFrom before z = c := by
  have h := head_stableSort before c (List.finRange n) (List.pairwise_lt_finRange n) (List.mem_finRange c)
    (fun k _ => h1 k) (fun k _ => h2 k)
  rw [List.head?_eq_getElem?] at h
  unfold sortedFrom
  rw [List.get_eq_getElem]
  obtain ⟨hlt, he⟩ := List.getElem?_eq_some_iff.mp h
  simp only [Fin.val_cast, hz]
  exact he

end Cert.Nearest

end
-- ==== Proof.Scale.lean ====
/-
  A row scaled by its length, the sign of the weight, and the distance as a function of the similarity.

  Over the extended reals a scaled row is always real: if the sum of squares is infinite the quotient is zero, and
  otherwise every entry is real and the divisor a positive real. So a similarity is a real number, and with a finite
  weight and offset the distance is a strictly increasing function of the similarity times the weight.
-/
module

public import Idealize.ShloMosaic.PureOps.Ideal
public import Idealize.ShloMosaic.PureOps.Ideal.Laws
public import proofs.«01_k».proof.Proof.FirstMax

@[expose] public section

noncomputable section

open Idealize.ShloMosaic

namespace Cert.Nearest

/-- The small number added to a row's length. -/
def eps : EReal := Ideal.ofBits .f32 0x2B8CBCCC#32

/-- It is a positive real. -/
theorem eps_pos : ∃ e : ℝ, 0 < e ∧ eps = (e : EReal) := by
  refine ⟨((2 ^ 23 + 834764 : ℕ) : ℝ) * (2 : ℝ) ^ (-63 : ℤ), by positivity, ?_⟩
  unfold eps Ideal.ofBits Ideal.ieee
  have hs : (BitVec.extractLsb' (8 + 23) 1 (0x2B8CBCCC#32) == 1#1) = false := by decide
  have he : (BitVec.extractLsb' 23 8 (0x2B8CBCCC#32)).toNat = 87 := by decide
  have hf : (BitVec.extractLsb' 0 23 (0x2B8CBCCC#32)).toNat = 834764 := by decide
  simp only [hs, he, hf]
  norm_num

/-- A row scaled by its length. -/
def unit (x : Fin 128 → EReal) (d : Fin 128) : EReal := Ideal.div (x d) (Ideal.sqrt (∑ k, x k * x k) + eps)

/-- A square is not negative. -/
theorem sq_nonneg' (x : EReal) : 0 ≤ x * x := by
  induction x using EReal.rec with
  | bot => simp
  | top => simp
  | coe r => rw [← EReal.coe_mul]; exact EReal.coe_nonneg.mpr (mul_self_nonneg r)

/-- A number whose square is real is real. -/
theorem real_of_sq {x : EReal} (h : x * x ≠ ⊤) : ∃ r : ℝ, x = (r : EReal) := by
  induction x using EReal.rec with
  | bot => simp at h
  | top => simp at h
  | coe r => exact ⟨r, rfl⟩

/-- A scaled row's entries are real. -/
theorem unit_real (x : Fin 128 → EReal) (d : Fin 128) : ∃ r : ℝ, unit x d = (r : EReal) := by
  obtain ⟨e, he, heq⟩ := eps_pos
  unfold unit
  rw [heq]
  have hS : 0 ≤ ∑ k, x k * x k := Finset.sum_nonneg fun k _ => sq_nonneg' (x k)
  by_cases ht : ∑ k, x k * x k = ⊤
  · refine ⟨0, ?_⟩
    rw [ht]
    show Ideal.div (x d) (⊤ + (e : EReal)) = _
    rw [EReal.top_add_coe, Ideal.div, if_neg (by simp), EReal.inv_top, mul_zero, EReal.coe_zero]
  · have hle : x d * x d ≤ ∑ k, x k * x k :=
      Finset.single_le_sum (f := fun k => x k * x k) (fun k _ => sq_nonneg' (x k)) (Finset.mem_univ d)
    obtain ⟨r, hr⟩ := real_of_sq (x := x d) fun h => ht (top_le_iff.mp (h ▸ hle))
    obtain ⟨s, hs⟩ : ∃ s : ℝ, ∑ k, x k * x k = (s : EReal) :=
      ⟨(∑ k, x k * x k).toReal, (EReal.coe_toReal ht (lt_of_lt_of_le EReal.bot_lt_zero hS).ne').symm⟩
    rw [hs, hr]
    have hs0 : ¬ s < 0 := not_lt.mpr (EReal.coe_nonneg.mp (hs ▸ hS))
    have hq : Ideal.sqrt (s : EReal) = ((Real.sqrt s : ℝ) : EReal) := if_neg hs0
    have hpos : 0 < Real.sqrt s + e := add_pos_of_nonneg_of_pos (Real.sqrt_nonneg s) he
    rw [hq, ← EReal.coe_add, Ideal.div, if_neg (by rw [← EReal.coe_zero, EReal.coe_eq_coe_iff]; exact hpos.ne'),
      ← EReal.coe_inv, ← EReal.coe_mul]
    exact ⟨_, rfl⟩

/-- A sum of reals, as an extended real. -/
theorem coe_sum {n : ℕ} (f : Fin n → ℝ) : ∑ k, ((f k : ℝ) : EReal) = ((∑ k, f k : ℝ) : EReal) := by
  have h : ∀ s : Finset (Fin n), ∑ k ∈ s, ((f k : ℝ) : EReal) = ((∑ k ∈ s, f k : ℝ) : EReal) := fun s => by
    induction s using Finset.cons_induction with
    | empty => simp
    | cons a s ha ih => rw [Finset.sum_cons, Finset.sum_cons, ih, EReal.coe_add]
  exact h Finset.univ

/-- The similarity of two rows: the product of the scaled rows. -/
def sim (q k : Fin 128 → EReal) : EReal := ∑ d, unit q d * unit k d

/-- The sign of the weight as the kernel takes it. -/
def sgn (w : EReal) : EReal := if 0 < w then 1 else if w < 0 then -1 else w

/-- The kernel's score of a key: the sign is put on the scaled query first. -/
def score (w : EReal) (q k : Fin 128 → EReal) : EReal := ∑ d, unit q d * sgn w * unit k d

/-- The distance as the reference takes it. -/
def dist (w b : EReal) (q k : Fin 128 → EReal) : EReal := Ideal.logistic (w * sim q k + b)

/-- A similarity is real. -/
theorem sim_real (q k : Fin 128 → EReal) : ∃ r : ℝ, sim q k = (r : EReal) := by
  choose u hu using unit_real q
  choose v hv using unit_real k
  refine ⟨∑ d, u d * v d, ?_⟩
  unfold sim
  rw [← coe_sum]
  exact Finset.sum_congr rfl fun d _ => by rw [hu, hv, EReal.coe_mul]

/-- The sign of a real weight, as a real. -/
def sgnR (w : ℝ) : ℝ := if 0 < w then 1 else if w < 0 then -1 else w

theorem sgn_coe (w : ℝ) : sgn (w : EReal) = (sgnR w : EReal) := by
  unfold sgn sgnR
  simp only [EReal.coe_pos, EReal.coe_neg']
  split_ifs <;> simp

theorem mul_sgnR (w : ℝ) : w = |w| * sgnR w := by
  unfold sgnR
  split_ifs with h1 h2
  · rw [abs_of_pos h1, mul_one]
  · rw [abs_of_neg h2]; ring
  · obtain rfl : w = 0 := le_antisymm (not_lt.mp h1) (not_lt.mp h2)
    simp

theorem abs_eq_sgnR (w : ℝ) : |w| = w * sgnR w := by
  unfold sgnR
  split_ifs with h1 h2
  · rw [abs_of_pos h1, mul_one]
  · rw [abs_of_neg h2]; ring
  · obtain rfl : w = 0 := le_antisymm (not_lt.mp h1) (not_lt.mp h2)
    simp

/-- The kernel's score is the sign times the similarity. -/
theorem score_eq {w r : ℝ} {q k : Fin 128 → EReal} (h : sim q k = (r : EReal)) :
    score (w : EReal) q k = ((sgnR w * r : ℝ) : EReal) := by
  choose u hu using unit_real q
  choose v hv using unit_real k
  have hr : r = ∑ d, u d * v d := by
    have : sim q k = ((∑ d, u d * v d : ℝ) : EReal) := by
      unfold sim
      rw [← coe_sum]
      exact Finset.sum_congr rfl fun d _ => by rw [hu, hv, EReal.coe_mul]
    exact EReal.coe_eq_coe_iff.mp (h.symm.trans this)
  unfold score
  rw [hr, Finset.mul_sum, ← coe_sum]
  refine Finset.sum_congr rfl fun d _ => ?_
  rw [hu, hv, sgn_coe, ← EReal.coe_mul, ← EReal.coe_mul]
  congr 1; ring

/-- A score is real. -/
theorem score_real (w : ℝ) (q k : Fin 128 → EReal) : ∃ r : ℝ, score (w : EReal) q k = (r : EReal) := by
  obtain ⟨r, hr⟩ := sim_real q k
  exact ⟨_, score_eq hr⟩

/-- The logistic function on the reals grows strictly. -/
theorem logistic_lt {x y : ℝ} (h : x < y) : Ideal.logistic (x : EReal) < Ideal.logistic (y : EReal) := by
  rw [Ideal.logistic_coe, Ideal.logistic_coe, EReal.coe_lt_coe_iff]
  have := Real.exp_lt_exp.mpr (neg_lt_neg h)
  exact inv_strictAnti₀ (by positivity) (by linarith)

/-- The distance in terms of the score: the weight's size times the score, plus the offset. -/
theorem dist_eq (w b : ℝ) {s : ℝ} {q k : Fin 128 → EReal} (h : score (w : EReal) q k = (s : EReal)) :
    dist (w : EReal) (b : EReal) q k = Ideal.logistic ((|w| * s + b : ℝ) : EReal) := by
  obtain ⟨r, hr⟩ := sim_real q k
  have hs : sgnR w * r = s := EReal.coe_eq_coe_iff.mp ((score_eq hr).symm.trans h)
  unfold dist
  rw [hr, ← EReal.coe_mul, ← EReal.coe_add, ← hs, ← mul_assoc, ← mul_sgnR]

/-- What the kernel computes at the end from a score is the distance. -/
theorem finish_eq (w b : ℝ) (q k : Fin 128 → EReal) :
    Ideal.logistic ((w : EReal) * (score (w : EReal) q k * sgn (w : EReal)) + (b : EReal)) = dist (w : EReal) (b : EReal) q k := by
  obtain ⟨s, hs⟩ := score_real w q k
  rw [dist_eq w b hs, hs, sgn_coe, ← EReal.coe_mul, ← EReal.coe_mul, ← EReal.coe_add, abs_eq_sgnR]
  congr 2; ring

/-- A score at most as great gives a distance at most as great. -/
theorem dist_le (w b : ℝ) {q k k' : Fin 128 → EReal} (h : score (w : EReal) q k ≤ score (w : EReal) q k') :
    dist (w : EReal) (b : EReal) q k ≤ dist (w : EReal) (b : EReal) q k' := by
  obtain ⟨s, hs⟩ := score_real w q k
  obtain ⟨s', hs'⟩ := score_real w q k'
  rw [hs, hs', EReal.coe_le_coe_iff] at h
  rw [dist_eq w b hs, dist_eq w b hs']
  have : |w| * s + b ≤ |w| * s' + b := by have := mul_le_mul_of_nonneg_left h (abs_nonneg w); linarith
  rcases this.lt_or_eq with hlt | heq
  · exact (logistic_lt hlt).le
  · rw [heq]

/-- A score strictly smaller gives a distance strictly smaller. -/
theorem dist_lt (w b : ℝ) {q k k' : Fin 128 → EReal} (h : score (w : EReal) q k < score (w : EReal) q k') :
    dist (w : EReal) (b : EReal) q k < dist (w : EReal) (b : EReal) q k' := by
  obtain ⟨r, hr⟩ := sim_real q k
  obtain ⟨r', hr'⟩ := sim_real q k'
  have hw : 0 < |w| := abs_pos.mpr fun h0 => by
    subst h0
    rw [score_eq hr, score_eq hr'] at h
    simp [sgnR] at h
  obtain ⟨s, hs⟩ := score_real w q k
  obtain ⟨s', hs'⟩ := score_real w q k'
  rw [hs, hs', EReal.coe_lt_coe_iff] at h
  rw [dist_eq w b hs, dist_eq w b hs']
  exact logistic_lt (by have := mul_lt_mul_of_pos_left h hw; linarith)

/-! ## The row of scores, and the row of distances -/

/-- The row of scores the kernel scans: the keys' scores, and -∞ past the last key. -/
def row (w : EReal) (q : Fin 128 → EReal) (key : ℕ → Fin 128 → EReal) (c : ℕ) : EReal :=
  if c < 100000 then score w q (key c) else ⊥

/-- The row's first greatest score sits at a key. -/
theorem row_first (w : ℝ) (q : Fin 128 → EReal) (key : ℕ → Fin 128 → EReal) :
    ∃ c, c < 100000 ∧ IsFirst (row (w : EReal) q key) (784 * 128) c ∧ ⊥ < row (w : EReal) q key c := by
  obtain ⟨c, hc, hle, hlt⟩ := exists_isFirst (row (w : EReal) q key) 99999
  refine ⟨c, hc, ⟨by omega, fun k hk => ?_, hlt⟩, ?_⟩
  · by_cases h : k < 99999 + 1
    · exact hle k h
    · unfold row
      rw [if_neg (show ¬ k < 100000 by omega)]
      exact bot_le
  · obtain ⟨r, hr⟩ := score_real w q (key c)
    unfold row
    rw [if_pos (show c < 100000 by omega), hr]
    exact EReal.bot_lt_coe r

/-- The first greatest score is the first greatest distance. -/
theorem dist_first (w b : ℝ) (q : Fin 128 → EReal) (key : ℕ → Fin 128 → EReal) {c : ℕ} (hc : c < 100000)
    (h : IsFirst (row (w : EReal) q key) (784 * 128) c) :
    IsFirst (fun k => dist (w : EReal) (b : EReal) q (key k)) 100000 c := by
  have hr : ∀ k, k < 100000 → row (w : EReal) q key k = score (w : EReal) q (key k) := fun k hk => if_pos hk
  refine ⟨hc, fun k hk => dist_le w b ?_, fun k hk => dist_lt w b ?_⟩
  · rw [← hr k hk, ← hr c hc]; exact h.2.1 k (by omega)
  · rw [← hr k (by omega), ← hr c hc]; exact h.2.2 k hk

end Cert.Nearest

end
-- ==== Proof.AtIndex.lean ====
/-
  The kernel's stored values at one row and lane, over the extended reals: one tile carries the record of a row and
  lane sixteen chunks on (`FirstMax`'s scan), and the results of the last point are read off the record.
-/
module

public import proofs.«01_k».proof.Proof.Cases
public import proofs.«01_k».proof.Proof.Scale
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.KernelIdeal.Cases

open Cert.KernelIdeal.Gen Cert.KernelIdeal.Carry Cert.Nearest

/-- The empty record's value. -/
theorem ofBits_bot : Ideal.ofBits .f32 0xFF800000#32 = (⊥ : EReal) := by
  unfold Ideal.ofBits Ideal.ieee
  have hs : (BitVec.extractLsb' (8 + 23) 1 (0xFF800000#32) == 1#1) = true := by decide
  have he : (BitVec.extractLsb' 23 8 (0xFF800000#32)).toNat = 255 := by decide
  have hf : (BitVec.extractLsb' 0 23 (0xFF800000#32)).toNat = 0 := by decide
  simp only [hs, he, hf]
  norm_num

/-- Minus one. -/
theorem ofBits_neg_one : Ideal.ofBits .f32 0xBF800000#32 = (-1 : EReal) := by
  unfold Ideal.ofBits Ideal.ieee
  have hs : (BitVec.extractLsb' (8 + 23) 1 (0xBF800000#32) == 1#1) = true := by decide
  have he : (BitVec.extractLsb' 23 8 (0xBF800000#32)).toNat = 127 := by decide
  have hf : (BitVec.extractLsb' 0 23 (0xBF800000#32)).toNat = 0 := by decide
  simp only [hs, he, hf]
  norm_num

/-- The next value of a record. -/
theorem scan_fst {f : ℕ → EReal} {n : ℕ} {a c : EReal} (ha : a = (scan f n).1) (hc : c = f n) :
    max a c = (scan f (n + 1)).1 := by
  rw [ha, hc]; rfl

/-- The next chunk number of a record. -/
theorem scan_snd {f : ℕ → EReal} {n : ℕ} {a c : EReal} {t u : BitVec 32} (ha : a = (scan f n).1) (hc : c = f n)
    (ht : t = BitVec.ofNat 32 n) (hu : u = BitVec.ofNat 32 (scan f n).2) :
    (if a < c then t else u) = BitVec.ofNat 32 (scan f (n + 1)).2 := by
  rw [ha, hc, ht, hu]
  exact (apply_ite (BitVec.ofNat 32) _ _ _).symm

/-- The number of a tile's chunk, in words. -/
theorem tag_eq (p j : ℕ) :
    Scalar.addi (Scalar.muli (BitVec.ofNat 32 p) 16#32) (BitVec.ofNat 32 j) = BitVec.ofNat 32 (p * 16 + j) := by
  show BitVec.ofNat 32 p * BitVec.ofNat 32 16 + BitVec.ofNat 32 j = _
  rw [← BitVec.ofNat_mul, ← BitVec.ofNat_add]

/-- One whole tile carries a record's value on by its sixteen chunks. -/
theorem wholeM_at (tile : FVec Ideal S1024x2048 .f32) (mx : Vec Ideal S1024x128 .f32) (r : Fin 1024) (l : Fin 128)
    {f : ℕ → EReal} (p : ℕ)
    (ht : ∀ (j : ℕ) (c : Fin 2048), c.val = j * 128 + l.val → tile (ix2 r c) = f (p * 16 + j))
    (hm : mx (ix2 r l) = (scan f (p * 16)).1) :
    wholeM tile mx (ix2 r l) = (scan f (p * 16 + 16)).1 := by
  have m0 := hm
  have m1 := scan_fst m0 (ht 0 ⟨l.val, by omega⟩ (by simp))
  have m2 := scan_fst m1 (ht 1 ⟨128 + l.val, by omega⟩ (by simp))
  have m3 := scan_fst m2 (ht 2 ⟨256 + l.val, by omega⟩ (by simp))
  have m4 := scan_fst m3 (ht 3 ⟨384 + l.val, by omega⟩ (by simp))
  have m5 := scan_fst m4 (ht 4 ⟨512 + l.val, by omega⟩ (by simp))
  have m6 := scan_fst m5 (ht 5 ⟨640 + l.val, by omega⟩ (by simp))
  have m7 := scan_fst m6 (ht 6 ⟨768 + l.val, by omega⟩ (by simp))
  have m8 := scan_fst m7 (ht 7 ⟨896 + l.val, by omega⟩ (by simp))
  have m9 := scan_fst m8 (ht 8 ⟨1024 + l.val, by omega⟩ (by simp))
  have m10 := scan_fst m9 (ht 9 ⟨1152 + l.val, by omega⟩ (by simp))
  have m11 := scan_fst m10 (ht 10 ⟨1280 + l.val, by omega⟩ (by simp))
  have m12 := scan_fst m11 (ht 11 ⟨1408 + l.val, by omega⟩ (by simp))
  have m13 := scan_fst m12 (ht 12 ⟨1536 + l.val, by omega⟩ (by simp))
  have m14 := scan_fst m13 (ht 13 ⟨1664 + l.val, by omega⟩ (by simp))
  have m15 := scan_fst m14 (ht 14 ⟨1792 + l.val, by omega⟩ (by simp))
  have m16 := scan_fst m15 (ht 15 ⟨1920 + l.val, by omega⟩ (by simp))
  unfold wholeM
  unfold_payloads
  pointwise []
  exact m16

/-- One whole tile carries a record's chunk number on by its sixteen chunks. -/
theorem wholeI_at (tile : FVec Ideal S1024x2048 .f32) (mx : Vec Ideal S1024x128 .f32) (ix : Vec Ideal S1024x128 .i32) (r : Fin 1024) (l : Fin 128)
    {f : ℕ → EReal} (p : ℕ)
    (ht : ∀ (j : ℕ) (c : Fin 2048), c.val = j * 128 + l.val → tile (ix2 r c) = f (p * 16 + j))
    (hm : mx (ix2 r l) = (scan f (p * 16)).1) (hi : ix (ix2 r l) = BitVec.ofNat 32 (scan f (p * 16)).2) :
    wholeI (BitVec.ofNat 32 p) tile mx ix (ix2 r l) = BitVec.ofNat 32 (scan f (p * 16 + 16)).2 := by
  have m0 := hm
  have m1 := scan_fst m0 (ht 0 ⟨l.val, by omega⟩ (by simp))
  have m2 := scan_fst m1 (ht 1 ⟨128 + l.val, by omega⟩ (by simp))
  have m3 := scan_fst m2 (ht 2 ⟨256 + l.val, by omega⟩ (by simp))
  have m4 := scan_fst m3 (ht 3 ⟨384 + l.val, by omega⟩ (by simp))
  have m5 := scan_fst m4 (ht 4 ⟨512 + l.val, by omega⟩ (by simp))
  have m6 := scan_fst m5 (ht 5 ⟨640 + l.val, by omega⟩ (by simp))
  have m7 := scan_fst m6 (ht 6 ⟨768 + l.val, by omega⟩ (by simp))
  have m8 := scan_fst m7 (ht 7 ⟨896 + l.val, by omega⟩ (by simp))
  have m9 := scan_fst m8 (ht 8 ⟨1024 + l.val, by omega⟩ (by simp))
  have m10 := scan_fst m9 (ht 9 ⟨1152 + l.val, by omega⟩ (by simp))
  have m11 := scan_fst m10 (ht 10 ⟨1280 + l.val, by omega⟩ (by simp))
  have m12 := scan_fst m11 (ht 11 ⟨1408 + l.val, by omega⟩ (by simp))
  have m13 := scan_fst m12 (ht 12 ⟨1536 + l.val, by omega⟩ (by simp))
  have m14 := scan_fst m13 (ht 13 ⟨1664 + l.val, by omega⟩ (by simp))
  have m15 := scan_fst m14 (ht 14 ⟨1792 + l.val, by omega⟩ (by simp))
  have m16 := scan_fst m15 (ht 15 ⟨1920 + l.val, by omega⟩ (by simp))
  have i0 := hi
  have i1 := scan_snd m0 (ht 0 ⟨l.val, by omega⟩ (by simp)) (tag_eq p 0) i0
  have i2 := scan_snd m1 (ht 1 ⟨128 + l.val, by omega⟩ (by simp)) (tag_eq p 1) i1
  have i3 := scan_snd m2 (ht 2 ⟨256 + l.val, by omega⟩ (by simp)) (tag_eq p 2) i2
  have i4 := scan_snd m3 (ht 3 ⟨384 + l.val, by omega⟩ (by simp)) (tag_eq p 3) i3
  have i5 := scan_snd m4 (ht 4 ⟨512 + l.val, by omega⟩ (by simp)) (tag_eq p 4) i4
  have i6 := scan_snd m5 (ht 5 ⟨640 + l.val, by omega⟩ (by simp)) (tag_eq p 5) i5
  have i7 := scan_snd m6 (ht 6 ⟨768 + l.val, by omega⟩ (by simp)) (tag_eq p 6) i6
  have i8 := scan_snd m7 (ht 7 ⟨896 + l.val, by omega⟩ (by simp)) (tag_eq p 7) i7
  have i9 := scan_snd m8 (ht 8 ⟨1024 + l.val, by omega⟩ (by simp)) (tag_eq p 8) i8
  have i10 := scan_snd m9 (ht 9 ⟨1152 + l.val, by omega⟩ (by simp)) (tag_eq p 9) i9
  have i11 := scan_snd m10 (ht 10 ⟨1280 + l.val, by omega⟩ (by simp)) (tag_eq p 10) i10
  have i12 := scan_snd m11 (ht 11 ⟨1408 + l.val, by omega⟩ (by simp)) (tag_eq p 11) i11
  have i13 := scan_snd m12 (ht 12 ⟨1536 + l.val, by omega⟩ (by simp)) (tag_eq p 12) i12
  have i14 := scan_snd m13 (ht 13 ⟨1664 + l.val, by omega⟩ (by simp)) (tag_eq p 13) i13
  have i15 := scan_snd m14 (ht 14 ⟨1792 + l.val, by omega⟩ (by simp)) (tag_eq p 14) i14
  have i16 := scan_snd m15 (ht 15 ⟨1920 + l.val, by omega⟩ (by simp)) (tag_eq p 15) i15
  unfold wholeI
  unfold_payloads
  pointwise []
  exact i16

/-- The last tile carries a record's value on by its sixteen chunks, masked. -/
theorem lastM_at (tile : FVec Ideal S1024x2048 .f32) (mx : Vec Ideal S1024x128 .f32) (r : Fin 1024) (l : Fin 128)
    {f : ℕ → EReal} (p : ℕ)
    (ht : ∀ (j : ℕ) (c : Fin 2048), c.val = j * 128 + l.val → k0_pay15 (BitVec.ofNat 32 p) tile (ix2 r c) = f (p * 16 + j))
    (hm : mx (ix2 r l) = (scan f (p * 16)).1) :
    lastM (BitVec.ofNat 32 p) tile mx (ix2 r l) = (scan f (p * 16 + 16)).1 := by
  have m0 := hm
  have m1 := scan_fst m0 (ht 0 ⟨l.val, by omega⟩ (by simp))
  have m2 := scan_fst m1 (ht 1 ⟨128 + l.val, by omega⟩ (by simp))
  have m3 := scan_fst m2 (ht 2 ⟨256 + l.val, by omega⟩ (by simp))
  have m4 := scan_fst m3 (ht 3 ⟨384 + l.val, by omega⟩ (by simp))
  have m5 := scan_fst m4 (ht 4 ⟨512 + l.val, by omega⟩ (by simp))
  have m6 := scan_fst m5 (ht 5 ⟨640 + l.val, by omega⟩ (by simp))
  have m7 := scan_fst m6 (ht 6 ⟨768 + l.val, by omega⟩ (by simp))
  have m8 := scan_fst m7 (ht 7 ⟨896 + l.val, by omega⟩ (by simp))
  have m9 := scan_fst m8 (ht 8 ⟨1024 + l.val, by omega⟩ (by simp))
  have m10 := scan_fst m9 (ht 9 ⟨1152 + l.val, by omega⟩ (by simp))
  have m11 := scan_fst m10 (ht 10 ⟨1280 + l.val, by omega⟩ (by simp))
  have m12 := scan_fst m11 (ht 11 ⟨1408 + l.val, by omega⟩ (by simp))
  have m13 := scan_fst m12 (ht 12 ⟨1536 + l.val, by omega⟩ (by simp))
  have m14 := scan_fst m13 (ht 13 ⟨1664 + l.val, by omega⟩ (by simp))
  have m15 := scan_fst m14 (ht 14 ⟨1792 + l.val, by omega⟩ (by simp))
  have m16 := scan_fst m15 (ht 15 ⟨1920 + l.val, by omega⟩ (by simp))
  unfold lastM
  simp only [k0_pay6, k0_pay7, k0_pay8, k0_pay9, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
  generalize k0_pay15 (BitVec.ofNat 32 p) tile = masked at *
  pointwise []
  exact m16

/-- The last tile carries a record's chunk number on by its sixteen chunks, masked. -/
theorem lastI_at (tile : FVec Ideal S1024x2048 .f32) (mx : Vec Ideal S1024x128 .f32) (ix : Vec Ideal S1024x128 .i32) (r : Fin 1024) (l : Fin 128)
    {f : ℕ → EReal} (p : ℕ)
    (ht : ∀ (j : ℕ) (c : Fin 2048), c.val = j * 128 + l.val → k0_pay15 (BitVec.ofNat 32 p) tile (ix2 r c) = f (p * 16 + j))
    (hm : mx (ix2 r l) = (scan f (p * 16)).1) (hi : ix (ix2 r l) = BitVec.ofNat 32 (scan f (p * 16)).2) :
    lastI (BitVec.ofNat 32 p) tile mx ix (ix2 r l) = BitVec.ofNat 32 (scan f (p * 16 + 16)).2 := by
  have m0 := hm
  have m1 := scan_fst m0 (ht 0 ⟨l.val, by omega⟩ (by simp))
  have m2 := scan_fst m1 (ht 1 ⟨128 + l.val, by omega⟩ (by simp))
  have m3 := scan_fst m2 (ht 2 ⟨256 + l.val, by omega⟩ (by simp))
  have m4 := scan_fst m3 (ht 3 ⟨384 + l.val, by omega⟩ (by simp))
  have m5 := scan_fst m4 (ht 4 ⟨512 + l.val, by omega⟩ (by simp))
  have m6 := scan_fst m5 (ht 5 ⟨640 + l.val, by omega⟩ (by simp))
  have m7 := scan_fst m6 (ht 6 ⟨768 + l.val, by omega⟩ (by simp))
  have m8 := scan_fst m7 (ht 7 ⟨896 + l.val, by omega⟩ (by simp))
  have m9 := scan_fst m8 (ht 8 ⟨1024 + l.val, by omega⟩ (by simp))
  have m10 := scan_fst m9 (ht 9 ⟨1152 + l.val, by omega⟩ (by simp))
  have m11 := scan_fst m10 (ht 10 ⟨1280 + l.val, by omega⟩ (by simp))
  have m12 := scan_fst m11 (ht 11 ⟨1408 + l.val, by omega⟩ (by simp))
  have m13 := scan_fst m12 (ht 12 ⟨1536 + l.val, by omega⟩ (by simp))
  have m14 := scan_fst m13 (ht 13 ⟨1664 + l.val, by omega⟩ (by simp))
  have m15 := scan_fst m14 (ht 14 ⟨1792 + l.val, by omega⟩ (by simp))
  have m16 := scan_fst m15 (ht 15 ⟨1920 + l.val, by omega⟩ (by simp))
  have i0 := hi
  have i1 := scan_snd m0 (ht 0 ⟨l.val, by omega⟩ (by simp)) (tag_eq p 0) i0
  have i2 := scan_snd m1 (ht 1 ⟨128 + l.val, by omega⟩ (by simp)) (tag_eq p 1) i1
  have i3 := scan_snd m2 (ht 2 ⟨256 + l.val, by omega⟩ (by simp)) (tag_eq p 2) i2
  have i4 := scan_snd m3 (ht 3 ⟨384 + l.val, by omega⟩ (by simp)) (tag_eq p 3) i3
  have i5 := scan_snd m4 (ht 4 ⟨512 + l.val, by omega⟩ (by simp)) (tag_eq p 4) i4
  have i6 := scan_snd m5 (ht 5 ⟨640 + l.val, by omega⟩ (by simp)) (tag_eq p 5) i5
  have i7 := scan_snd m6 (ht 6 ⟨768 + l.val, by omega⟩ (by simp)) (tag_eq p 6) i6
  have i8 := scan_snd m7 (ht 7 ⟨896 + l.val, by omega⟩ (by simp)) (tag_eq p 7) i7
  have i9 := scan_snd m8 (ht 8 ⟨1024 + l.val, by omega⟩ (by simp)) (tag_eq p 8) i8
  have i10 := scan_snd m9 (ht 9 ⟨1152 + l.val, by omega⟩ (by simp)) (tag_eq p 9) i9
  have i11 := scan_snd m10 (ht 10 ⟨1280 + l.val, by omega⟩ (by simp)) (tag_eq p 10) i10
  have i12 := scan_snd m11 (ht 11 ⟨1408 + l.val, by omega⟩ (by simp)) (tag_eq p 11) i11
  have i13 := scan_snd m12 (ht 12 ⟨1536 + l.val, by omega⟩ (by simp)) (tag_eq p 12) i12
  have i14 := scan_snd m13 (ht 13 ⟨1664 + l.val, by omega⟩ (by simp)) (tag_eq p 13) i13
  have i15 := scan_snd m14 (ht 14 ⟨1792 + l.val, by omega⟩ (by simp)) (tag_eq p 14) i14
  have i16 := scan_snd m15 (ht 15 ⟨1920 + l.val, by omega⟩ (by simp)) (tag_eq p 15) i15
  unfold lastI
  simp only [k0_pay6, k0_pay7, k0_pay8, k0_pay9, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
  generalize k0_pay15 (BitVec.ofNat 32 p) tile = masked at *
  pointwise []
  exact i16

/-- The masked tile: -∞ at the columns past the last key. -/
theorem pay15_at (p : ℕ) (hp : p < 49) (tile : FVec Ideal S1024x2048 .f32) (r : Fin 1024) (c : Fin 2048) :
    k0_pay15 (BitVec.ofNat 32 p) tile (ix2 r c) = if p * 2048 + c.val < 100000 then tile (ix2 r c) else ⊥ := by
  unfold_payloads
  pointwise []
  have hs : IntOp.cmpi .slt (IntOp.addi (BitVec.ofNat 32 c.val) (Scalar.muli (BitVec.ofNat 32 p) 2048#32)) 100000#32
      = BitVec.ofBool (decide (p * 2048 + c.val < 100000)) := by
    have h1 : IntOp.addi (BitVec.ofNat 32 c.val) (Scalar.muli (BitVec.ofNat 32 p) 2048#32)
        = BitVec.ofNat 32 (p * 2048 + c.val) := by
      show BitVec.ofNat 32 c.val + BitVec.ofNat 32 p * BitVec.ofNat 32 2048 = _
      rw [← BitVec.ofNat_mul, ← BitVec.ofNat_add, Nat.add_comm]
    rw [h1]
    show BitVec.ofBool (BitVec.slt _ _) = _
    congr 1
    have hc := c.isLt
    rw [BitVec.slt_eq_decide]
    rw [WordCmp.toInt_ofNat_of_lt (show p * 2048 + c.val < 2 ^ (32 - 1) by omega)]
    simp
    omega
  rw [hs, ofBits_bot]
  by_cases h : p * 2048 + c.val < 100000 <;> simp [h, Scalar.select]

/-- The tile: the products of the carried queries with the scaled keys of the block. -/
theorem pay5_at (k : Vec Ideal S2048x128 .f32) (q : Vec Ideal S1024x128 .bf16) (r : Fin 1024) (c : Fin 2048) :
    k0_pay5 k q (ix2 r c) = ∑ d : Fin 128, q (ix2 r d) * unit (fun d => k (ix2 c d)) d := by
  unfold_payloads
  pointwise []
  rfl

/-- The carried queries: scaled, with the weight's sign. -/
theorem pay2_at (w : Ideal .f32) (q : Vec Ideal S1024x128 .f32) (r : Fin 1024) (d : Fin 128) :
    k0_pay2 w q (ix2 r d) = unit (fun d => q (ix2 r d)) d * sgn w := by
  unfold_payloads
  pointwise []
  rw [ofBits_neg_one]
  rfl

/-- The empty record's values. -/
theorem pay3_at (r : Fin 1024) (l : Fin 128) : k0_pay3 (F := Ideal) (ix2 r l) = ⊥ := by
  unfold_payloads
  pointwise []
  exact ofBits_bot

/-- The empty record's chunk numbers. -/
theorem pay4_at (r : Fin 1024) (l : Fin 128) : k0_pay4 (ix2 r l) = 0#32 := by
  unfold_payloads
  pointwise []

/-- The distances of the last point, from the greatest value of the row's lanes. -/
theorem pay13_at (w b : Ideal .f32) (m : Vec Ideal S1024x128 .f32) (r : Fin 1024) {top : EReal}
    (hle : ∀ l, m (ix2 r l) ≤ top) (l0 : Fin 128) (h0 : m (ix2 r l0) = top) :
    k0_pay13 w b m (ix2 r 0) = Ideal.logistic (w * (top * sgn w) + b) := by
  have hf : Finset.fold max (⊥ : EReal) (fun x => m (ix2 r x)) Finset.univ = top :=
    le_antisymm (Finset.fold_max_le top |>.mpr ⟨bot_le, fun x _ => hle x⟩)
      (Finset.le_fold_max top |>.mpr (.inr ⟨l0, Finset.mem_univ _, h0.ge⟩))
  unfold_payloads
  pointwise []
  rw [ofBits_neg_one, ofBits_bot, hf]
  rfl

/-- The least of words, as integers. -/
theorem toInt_fold_minsi (init : BitVec 32) (g : Fin 128 → BitVec 32) :
    (Finset.fold IntOp.minsi init g Finset.univ).toInt
      = Finset.fold min init.toInt (fun x => (g x).toInt) Finset.univ := by
  have hm : ∀ x y : BitVec 32, (IntOp.minsi x y).toInt = min x.toInt y.toInt := fun x y => by
    show (if x.slt y then x else y).toInt = _
    rw [BitVec.slt_eq_decide]
    by_cases h : x.toInt < y.toInt
    · simp [h, h.le]
    · simp [h, not_lt.mp h]
  exact (Finset.fold_hom (op := IntOp.minsi) (op' := min) (m := BitVec.toInt) hm).symm

/-- The labels of the last point: the least position among the lanes holding the greatest value. -/
theorem pay14_at (w b : Ideal .f32) (m : Vec Ideal S1024x128 .f32) (ix : Vec Ideal S1024x128 .i32) (r : Fin 1024)
    {top : EReal} {c : ℕ} (t : Fin 128 → ℕ) (hc : c < 100352)
    (hle : ∀ l, m (ix2 r l) ≤ top) (hix : ∀ l, ix (ix2 r l) = BitVec.ofNat 32 (t l))
    (ht : ∀ l, m (ix2 r l) = top → c ≤ t l * 128 + l.val ∧ t l < 784)
    (l0 : Fin 128) (h0 : m (ix2 r l0) = top) (hl0 : t l0 * 128 + l0.val = c) :
    k0_pay14 w b m ix (ix2 r 0)
      = if Ideal.ofBits .f32 0x3F000000#32 ≤ Ideal.logistic (w * (top * sgn w) + b) then BitVec.ofNat 32 c
        else 4294967295#32 := by
  have hf : Finset.fold max (⊥ : EReal) (fun x => m (ix2 r x)) Finset.univ = top :=
    le_antisymm (Finset.fold_max_le top |>.mpr ⟨bot_le, fun x _ => hle x⟩)
      (Finset.le_fold_max top |>.mpr (.inr ⟨l0, Finset.mem_univ _, h0.ge⟩))
  have hn : ∀ l : Fin 128, IntOp.addi (IntOp.muli (ix (ix2 r l)) 128#32) (BitVec.ofNat 32 l.val)
      = BitVec.ofNat 32 (t l * 128 + l.val) := fun l => by
    rw [hix]
    show BitVec.ofNat 32 (t l) * BitVec.ofNat 32 128 + BitVec.ofNat 32 l.val = _
    rw [← BitVec.ofNat_mul, ← BitVec.ofNat_add]
  have hi : Finset.fold IntOp.minsi (2147483647#32)
      (fun x => if m (ix2 r x) = top then IntOp.addi (IntOp.muli (ix (ix2 r x)) 128#32) (BitVec.ofNat 32 x.val)
        else 2147483647#32) Finset.univ = BitVec.ofNat 32 c := by
    apply BitVec.eq_of_toInt_eq
    rw [toInt_fold_minsi, WordCmp.toInt_ofNat_of_lt (show c < 2 ^ (32 - 1) by omega)]
    refine le_antisymm ?_ ?_
    · refine (Finset.fold_min_le _).mpr (.inr ⟨l0, Finset.mem_univ _, ?_⟩)
      rw [if_pos h0, hn, hl0, WordCmp.toInt_ofNat_of_lt (show c < 2 ^ (32 - 1) by omega)]
    · have hbig : (c : ℤ) ≤ (2147483647#32 : BitVec 32).toInt := by
        rw [show (2147483647#32 : BitVec 32).toInt = 2147483647 by decide]; omega
      refine (Finset.le_fold_min _).mpr ⟨hbig, fun l _ => ?_⟩
      by_cases h : m (ix2 r l) = top
      · obtain ⟨h1, h2⟩ := ht l h
        have hl := l.isLt
        rw [if_pos h, hn, WordCmp.toInt_ofNat_of_lt (show t l * 128 + l.val < 2 ^ (32 - 1) by omega)]
        omega
      · rw [if_neg h]; exact hbig
  unfold_payloads
  pointwise []
  rw [ofBits_neg_one, ofBits_bot, hf, hi]
  rfl

end Cert.KernelIdeal.Cases

end
-- ==== Proof.Blocks.lean ====
/-
  What the kernel's grid points read, over the extended reals: the whole queries, the weight and the offset, and the
  rows of the keys a point's block holds (the rows past the last key are never looked at: the kernel masks them).
-/
module

public import proofs.«01_k».proof.Proof.Cases
public import Idealize.ShloMosaic.Lib.Pointwise
public import Idealize.ShloMosaic.Lib.Claim
public import Idealize.ShloMosaic.Lib.KernelVsHost
public import Idealize.ShloMosaic.Lib.Pipeline.ValueKit

@[expose] public section

set_option maxRecDepth 16384

noncomputable section

open Idealize.ShloMosaic Idealize.ShloMosaic.TcCoe Idealize.SL.Sem

namespace Cert.KernelIdeal.Cases

open Cert.KernelIdeal.Gen Cert.KernelIdeal.Carry

variable (m : (ℓ : Loc nD τ sig) → Buf (Elt Ideal) ℓ)

/-- The blocks of the keys are numbered as the points are; every other operand is one block. -/
theorem index_all : ∀ t : Fin cfg0.N, (win0_0.index t 0 = 0 ∧ win0_0.index t 1 = 0)
    ∧ (win0_1.index t 0 = t.val ∧ win0_1.index t 1 = 0) ∧ win0_2.index t 0 = 0 ∧ win0_3.index t 0 = 0 := by
  decide

/-- The point's number as the kernel reads it. -/
theorem coord_all : ∀ t : Fin cfg0.N, (grid0.coords t 0).val = t.val := by
  decide

/-- The padded keys, below the last key, are the keys. -/
theorem V_keys (c : Dev nD) (g : Fin 100352) (k : Fin 100000) (d : Fin 128) (h : g.val = k.val) :
    (V m c main_v0 : Vec Ideal S100352x128 .f32) (ix2 g d) = (m ((c : Thread nD τ).loc main_arg1) : Vec Ideal S100000x128 .f32) (ix2 k d) := by
  have e : (V m c main_v0 : Vec Ideal S100352x128 .f32)
      = pad (α := Ideal .f32) S100352x128 ![0, 0] ![352, 0] ![0, 0] (s := S100000x128) (m ((c : Thread nD τ).loc main_arg1) : Vec Ideal S100000x128 .f32)
          (sitofp (F := Ideal) .f32 (constantI S_ 32 0#32)) pads_S100000x128_S100352x128_03520_000 h_S_ := by
    unfold V
    simp only [hostOps0, hostOps0_1, List.flatten_cons, List.flatten_nil, List.cons_append, List.nil_append, StableHlo.TRef.binary, StableHlo.TRef.nullary, StableHlo.TRef.unary, StableHlo.TRef.toBuf,
      StableHlo.TRef.ofBuf, cast_eq]
    after_results_simp
  rw [e]
  pointwise []
  rw [dif_pos (h ▸ k.isLt)]
  congr 1
  exact congrArg (fun x => ix2 x d) (Fin.ext h)

theorem iblk_q (c : Dev nD) (t : Fin cfg0.N) (r : Fin 1024) (d : Fin 128) :
    (iblk m c 0 t : Vec Ideal S1024x128 .f32) (ix2 r d) = (m ((c : Thread nD τ).loc main_arg0) : Vec Ideal S1024x128 .f32) (ix2 r d) := by
  have hi := (index_all t).1
  blk_ext [iblk, V, hi]

theorem iblk_k (c : Dev nD) (t : Fin cfg0.N) (j : Fin 2048) (d : Fin 128) (h : t.val * 2048 + j.val < 100352) :
    (iblk m c 1 t : Vec Ideal S2048x128 .f32) (ix2 j d) = (V m c main_v0 : Vec Ideal S100352x128 .f32) (ix2 ⟨t.val * 2048 + j.val, h⟩ d) := by
  have hi := (index_all t).2.1
  blk_ext [iblk, hi]

theorem only_eq (x : Vec Ideal S1 .f32) : only x = x (ix1 0) := by
  unfold only View.ld
  congr 1
  funext a
  fin_cases a
  rfl

theorem only_w (c : Dev nD) (t : Fin cfg0.N) :
    only (iblk m c 2 t : Vec Ideal S1 .f32) = (m ((c : Thread nD τ).loc main_arg2) : Vec Ideal S1 .f32) (ix1 0) := by
  have hi := (index_all t).2.2.1
  refine (only_eq _).trans ?_
  blk_ext [iblk, V, hi]

theorem only_b (c : Dev nD) (t : Fin cfg0.N) :
    only (iblk m c 3 t : Vec Ideal S1 .f32) = (m ((c : Thread nD τ).loc main_arg3) : Vec Ideal S1 .f32) (ix1 0) := by
  have hi := (index_all t).2.2.2
  refine (only_eq _).trans ?_
  blk_ext [iblk, V, hi]

end Cert.KernelIdeal.Cases

end
-- ==== Proof.Carry.KernelIdeal.Value.lean ====
/- What the idealized kernel's two results hold after the run: the blocks the last grid point writes back.
   Follows the generated module of the same place; the scratch of normalised queries (`arg7`), stored at the
   first point and read at every point, is carried here beside the running maximum and the running chunk. -/
module

public import proofs.«01_k».proof.Proof.Carry.KernelIdeal.Frame
public import Idealize.ShloMosaic.Lib.Pipeline.Value

@[expose] public section

noncomputable section

namespace Cert.KernelIdeal.Value

open Cert.KernelIdeal.Carry

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 4's array: the run's contents for that window after the body (`outsAt0`: its component 0), read through the window's block. -/
theorem flushed4 (c : Dev nD) (t : Fin cfg0.N) :
    (dats m 0 c).flushed 4 t = (cfg0.win 4).cut (grid0.coords t) ((outsAt0 m c t.val t.isLt).1) := by
  show (cfg0.win 4).cut (grid0.coords t) ((dats m 0 c).after 4 t) = _
  rw [after0_4]

/-- … so at a point where case A runs, what its write-back would write is that case's NAMED TERM for the window (`out0_A_4`: the pieces
    its run found, read back) at the point's memrefs and input blocks, and for an output the case reads back what the point before left (`outsAt0` at `t - 1`) — by the frame's rewriting lemma for the case. -/
theorem flushed4_A (c : Dev nD) (t : Fin cfg0.N) (h0 : t.val % 49 = 0) (h1 : ¬t.val % 49 = 48) (h2 : t.val < 48) (h3 : ¬t.val % 49 = 48) :
    (dats m 0 c).flushed 4 t = (cfg0.win 4).cut (grid0.coords t) (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t)) := by
  simp only [flushed4, outsAt0_A m c t h0 h1 h2 h3]

/-- … so at a point where case B runs, what its write-back would write is that case's NAMED TERM for the window (`out0_B_4`: the pieces
    its run found, read back) at the point's memrefs and input blocks, and for an output the case reads back what the point before left (`outsAt0` at `t - 1`) — by the frame's rewriting lemma for the case. -/
theorem flushed4_B (c : Dev nD) (t : Fin cfg0.N) (h0 : ¬t.val % 49 = 0) (h1 : ¬t.val % 49 = 48) (h2 : t.val < 48) (h3 : ¬t.val % 49 = 48) :
    (dats m 0 c).flushed 4 t = (cfg0.win 4).cut (grid0.coords t) (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  simp only [flushed4, outsAt0_B m c t h0 h1 h2 h3]

/-- … so at a point where case C runs, what its write-back would write is that case's NAMED TERM for the window (`out0_C_4`: the pieces
    its run found, read back) at the point's memrefs and input blocks, and for an output the case reads back what the point before left (`outsAt0` at `t - 1`) — by the frame's rewriting lemma for the case. -/
theorem flushed4_C (c : Dev nD) (t : Fin cfg0.N) (h0 : ¬t.val % 49 = 0) (h1 : t.val % 49 = 48) (h2 : ¬t.val < 48) (h3 : t.val % 49 = 48) :
    (dats m 0 c).flushed 4 t = (cfg0.win 4).cut (grid0.coords t) (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  simp only [flushed4, outsAt0_C m c t h0 h1 h2 h3]

-- no `blocks4`: window 4's index map revisits a block index, or its points could not be enumerated here;
-- the final array is still the frame's `arrAt`, to read with Lib/Pipeline/Value.lean's lemmas by hand

/-- An index that no flushing point's block covers keeps output window 4's array contents at region entry. -/
theorem entry4 (c : Dev nD) (i : S1024x1.Idx) (h : ∀ t : Fin cfg0.N, (cfg0.win 4).flush t = true → i ∉ ((cfg0.win 4).blk t).view.set) :
    (dats m 0 c).arrAt 4 cfg0.N i = V m c (Pipeline.arrRef spec0 4) i := by
  rw [(dats m 0 c).arrAt_apply_of_forall_not_mem 4 cfg0.N i (fun t _ hf => h t hf), A_eq]

/-- WHAT POINT `t` WRITES BACK to output window 5's array: the run's contents for that window after the body (`outsAt0`: its component 1), read through the window's block. -/
theorem flushed5 (c : Dev nD) (t : Fin cfg0.N) :
    (dats m 0 c).flushed 5 t = (cfg0.win 5).cut (grid0.coords t) ((outsAt0 m c t.val t.isLt).2.1) := by
  show (cfg0.win 5).cut (grid0.coords t) ((dats m 0 c).after 5 t) = _
  rw [after0_5]

/-- … so at a point where case A runs, what its write-back would write is that case's NAMED TERM for the window (`out0_A_5`: the pieces
    its run found, read back) at the point's memrefs and input blocks, and for an output the case reads back what the point before left (`outsAt0` at `t - 1`) — by the frame's rewriting lemma for the case. -/
theorem flushed5_A (c : Dev nD) (t : Fin cfg0.N) (h0 : t.val % 49 = 0) (h1 : ¬t.val % 49 = 48) (h2 : t.val < 48) (h3 : ¬t.val % 49 = 48) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t)) := by
  simp only [flushed5, outsAt0_A m c t h0 h1 h2 h3]

/-- … so at a point where case B runs, what its write-back would write is that case's NAMED TERM for the window (`out0_B_5`: the pieces
    its run found, read back) at the point's memrefs and input blocks, and for an output the case reads back what the point before left (`outsAt0` at `t - 1`) — by the frame's rewriting lemma for the case. -/
theorem flushed5_B (c : Dev nD) (t : Fin cfg0.N) (h0 : ¬t.val % 49 = 0) (h1 : ¬t.val % 49 = 48) (h2 : t.val < 48) (h3 : ¬t.val % 49 = 48) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  simp only [flushed5, outsAt0_B m c t h0 h1 h2 h3]

/-- … so at a point where case C runs, what its write-back would write is that case's NAMED TERM for the window (`out0_C_5`: the pieces
    its run found, read back) at the point's memrefs and input blocks, and for an output the case reads back what the point before left (`outsAt0` at `t - 1`) — by the frame's rewriting lemma for the case. -/
theorem flushed5_C (c : Dev nD) (t : Fin cfg0.N) (h0 : ¬t.val % 49 = 0) (h1 : t.val % 49 = 48) (h2 : ¬t.val < 48) (h3 : t.val % 49 = 48) :
    (dats m 0 c).flushed 5 t = (cfg0.win 5).cut (grid0.coords t) (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  simp only [flushed5, outsAt0_C m c t h0 h1 h2 h3]

-- no `blocks5`: window 5's index map revisits a block index, or its points could not be enumerated here;
-- the final array is still the frame's `arrAt`, to read with Lib/Pipeline/Value.lean's lemmas by hand

/-- An index that no flushing point's block covers keeps output window 5's array contents at region entry. -/
theorem entry5 (c : Dev nD) (i : S1024x1.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v1_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v1_1) = (dats m 0 c).arrAt 5 cfg0.N :=
  (h c).1 5

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v1_0) = (dats m 0 c).arrAt 4 cfg0.N
      ∧ r.2.mem ((c : Thread nD τ).loc main_v1_1) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post4 m r h c,
      post5 m r h c,
      kept_main_arg0 m r h c,
      kept_main_arg1 m r h c,
      kept_main_arg2 m r h c,
      kept_main_arg3 m r h c⟩)
    (run_main m ρ)

/-! ## Carried scratch 0: what each point leaves in it, and its fold -/

/-- What point `n` leaves in carried scratch 0, over what the point before left in it (`acc`): the case the conditions'
    closed forms select at `n`, the frame's own term for it (`sout0_κ_0`; anything else the case takes of the point
    before, another carried scratch or an output it reads back, stays `outsAt0`'s at `n - 1`); a case at the first point
    stores the scratch whole without reading what it held, and `acc` does not enter there (nor where no point meets the
    conditions: `acc`, never read). -/
def scAt0_0 (c : Dev nD) (n : ℕ) (hb : n < cfg0.N) (acc : Vec F S1024x128 .bf16) : Vec F S1024x128 .bf16 :=
  if h0 : n % 49 = 0 then
    if h1 : n % 49 = 48 then
      acc
    else
      if h2 : n < 48 then
        if h3 : n % 49 = 48 then
          acc
        else
          sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) ((hcond0_2 (⟨n, hb⟩ : Fin cfg0.N)).mpr h2) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))
      else
        acc
  else
    if h1 : n % 49 = 48 then
      if h2 : n < 48 then
        acc
      else
        if h3 : n % 49 = 48 then
          sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (fun h => h2 ((hcond0_2 (⟨n, hb⟩ : Fin cfg0.N)).mp h)) ((hcond0_3 (⟨n, hb⟩ : Fin cfg0.N)).mpr h3) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2
        else
          acc
    else
      if h2 : n < 48 then
        if h3 : n % 49 = 48 then
          acc
        else
          sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2
      else
        acc

/-- WHAT CARRIED SCRATCH 0 HOLDS after point `t`: the fold of its run up to `t`, from the reset at the run's first point
    `49·(t / 49)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2.1 = Pipeline.accAt (fun n h => scAt0_0 m c n h (VS0_0.read (Elt F) VS0_0.junk)) (scAt0_0 m c) (49 * (t.val / 49)) (t.val % 49)
      (by have h1 := t.isLt; have h2 := Nat.div_add_mod t.val 49; omega) :=
  Pipeline.eq_accAt_of_mod (fun n h => (outsAt0 m c n h).2.2.1) 49 (fun n h => scAt0_0 m c n h (VS0_0.read (Elt F) VS0_0.junk)) (scAt0_0 m c)
    (fun n h hn => by
      have hN := lt_of_lt_of_eq h (show cfg0.N = 49 from N_0)
      by_cases h0 : n % 49 = 0 <;> by_cases h1 : n % 49 = 48 <;> by_cases h2 : n < 48 <;> by_cases h3 : n % 49 = 48
      all_goals first | (exfalso; omega) | (rw [outsAt0_A m c ⟨n, h⟩ h0 h1 h2 h3]; dsimp only; unfold scAt0_0; rw [dif_pos h0, dif_neg h1, dif_pos h2, dif_neg h3] <;> try rfl) | (rw [outsAt0_B m c ⟨n, h⟩ h0 h1 h2 h3]; dsimp only; unfold scAt0_0; rw [dif_neg h0, dif_neg h1, dif_pos h2, dif_neg h3] <;> try rfl) | (rw [outsAt0_C m c ⟨n, h⟩ h0 h1 h2 h3]; dsimp only; unfold scAt0_0; rw [dif_neg h0, dif_pos h1, dif_neg h2, dif_pos h3] <;> try rfl))
    (fun n h hn => by
      have hN := lt_of_lt_of_eq h (show cfg0.N = 49 from N_0)
      by_cases h0 : (n + 1) % 49 = 0 <;> by_cases h1 : (n + 1) % 49 = 48 <;> by_cases h2 : (n + 1) < 48 <;> by_cases h3 : (n + 1) % 49 = 48
      all_goals first | (exfalso; omega) | (rw [outsAt0_A m c ⟨n + 1, h⟩ h0 h1 h2 h3]; dsimp only; unfold scAt0_0; rw [dif_pos h0, dif_neg h1, dif_pos h2, dif_neg h3] <;> try rfl) | (rw [outsAt0_B m c ⟨n + 1, h⟩ h0 h1 h2 h3]; dsimp only; unfold scAt0_0; rw [dif_neg h0, dif_neg h1, dif_pos h2, dif_neg h3] <;> try rfl) | (rw [outsAt0_C m c ⟨n + 1, h⟩ h0 h1 h2 h3]; dsimp only; unfold scAt0_0; rw [dif_neg h0, dif_pos h1, dif_neg h2, dif_pos h3] <;> try rfl))
    (by decide) t.val t.isLt _

/-- One run spans the grid (the only reset is at point 0): after point `n` the scratch is the fold from 0 to `n`. -/
theorem soutsAt0_0_sweep (c : Dev nD) (n : ℕ) (hn : n < cfg0.N) :
    (outsAt0 m c n hn).2.2.1 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 49 from N_0)
  have hd : n / 49 = 0 := Nat.div_eq_of_lt hN
  have hm : n % 49 = n := Nat.mod_eq_of_lt hN
  simpa only [hd, hm, Nat.mul_zero] using e

/-! ## Carried scratch 1: what each point leaves in it, and its fold -/

/-- What point `n` leaves in carried scratch 1, over what the point before left in it (`acc`): the case the conditions'
    closed forms select at `n`, the frame's own term for it (`sout0_κ_1`; anything else the case takes of the point
    before, another carried scratch or an output it reads back, stays `outsAt0`'s at `n - 1`); a case at the first point
    stores the scratch whole without reading what it held, and `acc` does not enter there (nor where no point meets the
    conditions: `acc`, never read). -/
def scAt0_1 (c : Dev nD) (n : ℕ) (hb : n < cfg0.N) (acc : Vec F S1024x128 .f32) : Vec F S1024x128 .f32 :=
  if h0 : n % 49 = 0 then
    if h1 : n % 49 = 48 then
      acc
    else
      if h2 : n < 48 then
        if h3 : n % 49 = 48 then
          acc
        else
          sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) ((hcond0_2 (⟨n, hb⟩ : Fin cfg0.N)).mpr h2) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))
      else
        acc
  else
    if h1 : n % 49 = 48 then
      if h2 : n < 48 then
        acc
      else
        if h3 : n % 49 = 48 then
          sout0_C_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (fun h => h2 ((hcond0_2 (⟨n, hb⟩ : Fin cfg0.N)).mp h)) ((hcond0_3 (⟨n, hb⟩ : Fin cfg0.N)).mpr h3) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (outsAt0 m c ((⟨n, hb⟩ : Fin cfg0.N).val - 1) (Nat.lt_of_le_of_lt (Nat.sub_le _ _) (⟨n, hb⟩ : Fin cfg0.N).isLt)).2.2.1 acc (outsAt0 m c ((⟨n, hb⟩ : Fin cfg0.N).val - 1) (Nat.lt_of_le_of_lt (Nat.sub_le _ _) (⟨n, hb⟩ : Fin cfg0.N).isLt)).2.2.2.2
        else
          acc
    else
      if h2 : n < 48 then
        if h3 : n % 49 = 48 then
          acc
        else
          sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (outsAt0 m c ((⟨n, hb⟩ : Fin cfg0.N).val - 1) (Nat.lt_of_le_of_lt (Nat.sub_le _ _) (⟨n, hb⟩ : Fin cfg0.N).isLt)).2.2.1 acc (outsAt0 m c ((⟨n, hb⟩ : Fin cfg0.N).val - 1) (Nat.lt_of_le_of_lt (Nat.sub_le _ _) (⟨n, hb⟩ : Fin cfg0.N).isLt)).2.2.2.2
      else
        acc

/-- WHAT CARRIED SCRATCH 1 HOLDS after point `t`: the fold of its run up to `t`, from the reset at the run's first point
    `49·(t / 49)` (Lib/Pipeline/Value.lean `Pipeline.eq_accAt_of_mod`, by the frame's `outsAt0_κ`; without enumerating the points). -/
theorem soutsAt0_1_eq (c : Dev nD) (t : Fin cfg0.N) :
    (outsAt0 m c t.val t.isLt).2.2.2.1 = Pipeline.accAt (fun n h => scAt0_1 m c n h (VS0_1.read (Elt F) VS0_1.junk)) (scAt0_1 m c) (49 * (t.val / 49)) (t.val % 49)
      (by have h1 := t.isLt; have h2 := Nat.div_add_mod t.val 49; omega) :=
  Pipeline.eq_accAt_of_mod (fun n h => (outsAt0 m c n h).2.2.2.1) 49 (fun n h => scAt0_1 m c n h (VS0_1.read (Elt F) VS0_1.junk)) (scAt0_1 m c)
    (fun n h hn => by
      have hN := lt_of_lt_of_eq h (show cfg0.N = 49 from N_0)
      by_cases h0 : n % 49 = 0 <;> by_cases h1 : n % 49 = 48 <;> by_cases h2 : n < 48 <;> by_cases h3 : n % 49 = 48
      all_goals first | (exfalso; omega) | (rw [outsAt0_A m c ⟨n, h⟩ h0 h1 h2 h3]; dsimp only; unfold scAt0_1; rw [dif_pos h0, dif_neg h1, dif_pos h2, dif_neg h3] <;> try rfl) | (rw [outsAt0_B m c ⟨n, h⟩ h0 h1 h2 h3]; dsimp only; unfold scAt0_1; rw [dif_neg h0, dif_neg h1, dif_pos h2, dif_neg h3] <;> try rfl) | (rw [outsAt0_C m c ⟨n, h⟩ h0 h1 h2 h3]; dsimp only; unfold scAt0_1; rw [dif_neg h0, dif_pos h1, dif_neg h2, dif_pos h3] <;> try rfl))
    (fun n h hn => by
      have hN := lt_of_lt_of_eq h (show cfg0.N = 49 from N_0)
      by_cases h0 : (n + 1) % 49 = 0 <;> by_cases h1 : (n + 1) % 49 = 48 <;> by_cases h2 : (n + 1) < 48 <;> by_cases h3 : (n + 1) % 49 = 48
      all_goals first | (exfalso; omega) | (rw [outsAt0_A m c ⟨n + 1, h⟩ h0 h1 h2 h3]; dsimp only; unfold scAt0_1; rw [dif_pos h0, dif_neg h1, dif_pos h2, dif_neg h3] <;> try rfl) | (rw [outsAt0_B m c ⟨n + 1, h⟩ h0 h1 h2 h3]; dsimp only; unfold scAt0_1; rw [dif_neg h0, dif_neg h1, dif_pos h2, dif_neg h3] <;> try rfl) | (rw [outsAt0_C m c ⟨n + 1, h⟩ h0 h1 h2 h3]; dsimp only; unfold scAt0_1; rw [dif_neg h0, dif_pos h1, dif_neg h2, dif_pos h3] <;> try rfl))
    (by decide) t.val t.isLt _

/-- One run spans the grid (the only reset is at point 0): after point `n` the scratch is the fold from 0 to `n`. -/
theorem soutsAt0_1_sweep (c : Dev nD) (n : ℕ) (hn : n < cfg0.N) :
    (outsAt0 m c n hn).2.2.2.1 = Pipeline.accAt (fun n h => scAt0_1 m c n h (VS0_1.read (Elt F) VS0_1.junk)) (scAt0_1 m c) 0 n (by omega) := by
  have e := soutsAt0_1_eq m c ⟨n, hn⟩
  have hN := lt_of_lt_of_eq hn (show cfg0.N = 49 from N_0)
  have hd : n / 49 = 0 := Nat.div_eq_of_lt hN
  have hm : n % 49 = n := Nat.mod_eq_of_lt hN
  simpa only [hd, hm, Nat.mul_zero] using e

/-! ## Carried scratch 2: what each point leaves in it, and its fold -/

/-- What point `n` leaves in carried scratch 2, over what the point before left in it (`acc`): the case the conditions'
    closed forms select at `n`, the frame's own term for it (`sout0_κ_2`; anything else the case takes of the point
    before, another carried scratch or an output it reads back, stays `outsAt0`'s at `n - 1`); a case at the first point
    stores the scratch whole without reading what it held, and `acc` does not enter there (nor where no point meets the
    conditions: `acc`, never read). -/
def scAt0_2 (c : Dev nD) (n : ℕ) (hb : n < cfg0.N) (acc : Vec F S1024x128 .i32) : Vec F S1024x128 .i32 :=
  if h0 : n % 49 = 0 then
    if h1 : n % 49 = 48 then
      acc
    else
      if h2 : n < 48 then
        if h3 : n % 49 = 48 then
          acc
        else
          sout0_A_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) ((hcond0_2 (⟨n, hb⟩ : Fin cfg0.N)).mpr h2) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N))
      else
        acc
  else
    if h1 : n % 49 = 48 then
      if h2 : n < 48 then
        acc
      else
        if h3 : n % 49 = 48 then
          sout0_C_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (fun h => h2 ((hcond0_2 (⟨n, hb⟩ : Fin cfg0.N)).mp h)) ((hcond0_3 (⟨n, hb⟩ : Fin cfg0.N)).mpr h3) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2.1 acc
        else
          acc
    else
      if h2 : n < 48 then
        if h3 : n % 49 = 48 then
          acc
        else
          sout0_B_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (outsAt0 m c ((⟨n, hb⟩ : Fin cfg0.N).val - 1) (Nat.lt_of_le_of_lt (Nat.sub_le _ _) (⟨n, hb⟩ : Fin cfg0.N).isLt)).2.2.1 (outsAt0 m c ((⟨n, hb⟩ : Fin cfg0.N).val - 1) (Nat.lt_of_le_of_lt (Nat.sub_le _ _) (⟨n, hb⟩ : Fin cfg0.N).isLt)).2.2.2.1 acc
      else
        acc

/-- WHAT CARRIED SCRATCH 2 HOLDS after point `t`: the fold of its run up to `t`, from the reset at the run's first point
    `49·(t / 49)` (Lib/Pipeline/Value.lean `Pipeline.eq_accAt_of_mod`, by the frame's `outsAt0_κ`; without enumerating the points). -/
theorem soutsAt0_2_eq (c : Dev nD) (t : Fin cfg0.N) :
    (outsAt0 m c t.val t.isLt).2.2.2.2 = Pipeline.accAt (fun n h => scAt0_2 m c n h (VS0_2.read (Elt F) VS0_2.junk)) (scAt0_2 m c) (49 * (t.val / 49)) (t.val % 49)
      (by have h1 := t.isLt; have h2 := Nat.div_add_mod t.val 49; omega) :=
  Pipeline.eq_accAt_of_mod (fun n h => (outsAt0 m c n h).2.2.2.2) 49 (fun n h => scAt0_2 m c n h (VS0_2.read (Elt F) VS0_2.junk)) (scAt0_2 m c)
    (fun n h hn => by
      have hN := lt_of_lt_of_eq h (show cfg0.N = 49 from N_0)
      by_cases h0 : n % 49 = 0 <;> by_cases h1 : n % 49 = 48 <;> by_cases h2 : n < 48 <;> by_cases h3 : n % 49 = 48
      all_goals first | (exfalso; omega) | (rw [outsAt0_A m c ⟨n, h⟩ h0 h1 h2 h3]; dsimp only; unfold scAt0_2; rw [dif_pos h0, dif_neg h1, dif_pos h2, dif_neg h3] <;> try rfl) | (rw [outsAt0_B m c ⟨n, h⟩ h0 h1 h2 h3]; dsimp only; unfold scAt0_2; rw [dif_neg h0, dif_neg h1, dif_pos h2, dif_neg h3] <;> try rfl) | (rw [outsAt0_C m c ⟨n, h⟩ h0 h1 h2 h3]; dsimp only; unfold scAt0_2; rw [dif_neg h0, dif_pos h1, dif_neg h2, dif_pos h3] <;> try rfl))
    (fun n h hn => by
      have hN := lt_of_lt_of_eq h (show cfg0.N = 49 from N_0)
      by_cases h0 : (n + 1) % 49 = 0 <;> by_cases h1 : (n + 1) % 49 = 48 <;> by_cases h2 : (n + 1) < 48 <;> by_cases h3 : (n + 1) % 49 = 48
      all_goals first | (exfalso; omega) | (rw [outsAt0_A m c ⟨n + 1, h⟩ h0 h1 h2 h3]; dsimp only; unfold scAt0_2; rw [dif_pos h0, dif_neg h1, dif_pos h2, dif_neg h3] <;> try rfl) | (rw [outsAt0_B m c ⟨n + 1, h⟩ h0 h1 h2 h3]; dsimp only; unfold scAt0_2; rw [dif_neg h0, dif_neg h1, dif_pos h2, dif_neg h3] <;> try rfl) | (rw [outsAt0_C m c ⟨n + 1, h⟩ h0 h1 h2 h3]; dsimp only; unfold scAt0_2; rw [dif_neg h0, dif_pos h1, dif_neg h2, dif_pos h3] <;> try rfl))
    (by decide) t.val t.isLt _

/-- One run spans the grid (the only reset is at point 0): after point `n` the scratch is the fold from 0 to `n`. -/
theorem soutsAt0_2_sweep (c : Dev nD) (n : ℕ) (hn : n < cfg0.N) :
    (outsAt0 m c n hn).2.2.2.2 = Pipeline.accAt (fun n h => scAt0_2 m c n h (VS0_2.read (Elt F) VS0_2.junk)) (scAt0_2 m c) 0 n (by omega) := by
  have e := soutsAt0_2_eq m c ⟨n, hn⟩
  have hN := lt_of_lt_of_eq hn (show cfg0.N = 49 from N_0)
  have hd : n / 49 = 0 := Nat.div_eq_of_lt hN
  have hm : n % 49 = n := Nat.mod_eq_of_lt hN
  simpa only [hd, hm, Nat.mul_zero] using e

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S1024x1 .i32 × Vec F S1024x1 .f32 × Vec F S1024x128 .bf16 × Vec F S1024x128 .f32 × Vec F S1024x128 .i32 :=
  ((VO0_4.read (Elt F) VO0_4.junk, VO0_5.read (Elt F) VO0_5.junk, VS0_0.read (Elt F) VS0_0.junk, VS0_1.read (Elt F) VS0_1.junk, VS0_2.read (Elt F) VS0_2.junk) : Vec F S1024x1 .i32 × Vec F S1024x1 .f32 × Vec F S1024x128 .bf16 × Vec F S1024x128 .f32 × Vec F S1024x128 .i32)

/-- THE STEP: what point `n` leaves in the named outputs and the carried scratch (`outsAt0`'s tuple), over what the
    point before left (`acc`) — `outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S1024x1 .i32 × Vec F S1024x1 .f32 × Vec F S1024x128 .bf16 × Vec F S1024x128 .f32 × Vec F S1024x128 .i32) : Vec F S1024x1 .i32 × Vec F S1024x1 .f32 × Vec F S1024x128 .bf16 × Vec F S1024x128 .f32 × Vec F S1024x128 .i32 :=
  if h0 : n % 49 = 0 then
    if h1 : n % 49 = 48 then
      False.elim (by have hN : n < 49 := lt_of_lt_of_eq hb (show cfg0.N = 49 from N_0); omega)
    else
      if h2 : n < 48 then
        if h3 : n % 49 = 48 then
          False.elim (by have hN : n < 49 := lt_of_lt_of_eq hb (show cfg0.N = 49 from N_0); omega)
        else
          (out0_A_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) ((hcond0_2 (⟨n, hb⟩ : Fin cfg0.N)).mpr h2) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)), out0_A_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) ((hcond0_2 (⟨n, hb⟩ : Fin cfg0.N)).mpr h2) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) ((hcond0_2 (⟨n, hb⟩ : Fin cfg0.N)).mpr h2) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)), sout0_A_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) ((hcond0_2 (⟨n, hb⟩ : Fin cfg0.N)).mpr h2) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)), sout0_A_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) ((hcond0_2 (⟨n, hb⟩ : Fin cfg0.N)).mpr h2) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)))
      else
        False.elim (by have hN : n < 49 := lt_of_lt_of_eq hb (show cfg0.N = 49 from N_0); omega)
  else
    if h1 : n % 49 = 48 then
      if h2 : n < 48 then
        False.elim (by have hN : n < 49 := lt_of_lt_of_eq hb (show cfg0.N = 49 from N_0); omega)
      else
        if h3 : n % 49 = 48 then
          (out0_C_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (fun h => h2 ((hcond0_2 (⟨n, hb⟩ : Fin cfg0.N)).mp h)) ((hcond0_3 (⟨n, hb⟩ : Fin cfg0.N)).mpr h3) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.2.1 acc.2.2.2.1 acc.2.2.2.2, out0_C_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (fun h => h2 ((hcond0_2 (⟨n, hb⟩ : Fin cfg0.N)).mp h)) ((hcond0_3 (⟨n, hb⟩ : Fin cfg0.N)).mpr h3) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.2.1 acc.2.2.2.1 acc.2.2.2.2, sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (fun h => h2 ((hcond0_2 (⟨n, hb⟩ : Fin cfg0.N)).mp h)) ((hcond0_3 (⟨n, hb⟩ : Fin cfg0.N)).mpr h3) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.2.1 acc.2.2.2.1 acc.2.2.2.2, sout0_C_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (fun h => h2 ((hcond0_2 (⟨n, hb⟩ : Fin cfg0.N)).mp h)) ((hcond0_3 (⟨n, hb⟩ : Fin cfg0.N)).mpr h3) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.2.1 acc.2.2.2.1 acc.2.2.2.2, sout0_C_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (fun h => h2 ((hcond0_2 (⟨n, hb⟩ : Fin cfg0.N)).mp h)) ((hcond0_3 (⟨n, hb⟩ : Fin cfg0.N)).mpr h3) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.2.1 acc.2.2.2.1 acc.2.2.2.2)
        else
          False.elim (by have hN : n < 49 := lt_of_lt_of_eq hb (show cfg0.N = 49 from N_0); omega)
    else
      if h2 : n < 48 then
        if h3 : n % 49 = 48 then
          False.elim (by have hN : n < 49 := lt_of_lt_of_eq hb (show cfg0.N = 49 from N_0); omega)
        else
          (out0_B_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.2.1 acc.2.2.2.1 acc.2.2.2.2, out0_B_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.2.1 acc.2.2.2.1 acc.2.2.2.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.2.1 acc.2.2.2.1 acc.2.2.2.2, sout0_B_1 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.2.1 acc.2.2.2.1 acc.2.2.2.2, sout0_B_2 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) ((hcond0_2 (⟨n, hb⟩ : Fin cfg0.N)).mpr h2) (fun h => h3 ((hcond0_3 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) acc.2.2.1 acc.2.2.2.1 acc.2.2.2.2)
      else
        False.elim (by have hN : n < 49 := lt_of_lt_of_eq hb (show cfg0.N = 49 from N_0); omega)

/-- `stAt0` at a point of case A: that case's contents. -/
theorem stAt0_A (c : Dev nD) (t : Fin cfg0.N) (acc : Vec F S1024x1 .i32 × Vec F S1024x1 .f32 × Vec F S1024x128 .bf16 × Vec F S1024x128 .f32 × Vec F S1024x128 .i32) (h0 : t.val % 49 = 0) (h1 : ¬t.val % 49 = 48) (h2 : t.val < 48) (h3 : ¬t.val % 49 = 48) :
    stAt0 m c t.val t.isLt acc = (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t), out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) ((hcond0_2 t).mpr h2) (fun h => h3 ((hcond0_3 t).mp h)) (iblk m c 0 t) (iblk m c 1 t) (iblk m c 2 t) (iblk m c 3 t)) :=
  (dif_pos h0).trans ((dif_neg h1).trans ((dif_pos h2).trans ((dif_neg h3).trans rfl)))

/-- `stAt0` at a point of case B: that case's contents, over `acc`. -/
theorem stAt0_B (c : Dev nD) (t : Fin cfg0.N) (acc : Vec F S1024x1 .i32 × Vec F S1024x1 .f32 × Vec F S1024x128 .bf16 × Vec F S1024x128 .f32 × Vec F S1024x128 .i32) (h0 : ¬t.val % 49 = 0) (h1 : ¬t.val % 49 = 48) (h2 : t.val < 48) (h3 : ¬t.val % 49 = 48) :
    stAt0 m c t.val t.isLt acc = (out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) acc.2.2.1 acc.2.2.2.1 acc.2.2.2.2, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) acc.2.2.1 acc.2.2.2.1 acc.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) acc.2.2.1 acc.2.2.2.1 acc.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) acc.2.2.1 acc.2.2.2.1 acc.2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) acc.2.2.1 acc.2.2.2.1 acc.2.2.2.2) :=
  (dif_neg h0).trans ((dif_neg h1).trans ((dif_pos h2).trans ((dif_neg h3).trans rfl)))

/-- `stAt0` at a point of case C: that case's contents, over `acc`. -/
theorem stAt0_C (c : Dev nD) (t : Fin cfg0.N) (acc : Vec F S1024x1 .i32 × Vec F S1024x1 .f32 × Vec F S1024x128 .bf16 × Vec F S1024x128 .f32 × Vec F S1024x128 .i32) (h0 : ¬t.val % 49 = 0) (h1 : t.val % 49 = 48) (h2 : ¬t.val < 48) (h3 : t.val % 49 = 48) :
    stAt0 m c t.val t.isLt acc = (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) acc.2.2.1 acc.2.2.2.1 acc.2.2.2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) acc.2.2.1 acc.2.2.2.1 acc.2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) acc.2.2.1 acc.2.2.2.1 acc.2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) acc.2.2.1 acc.2.2.2.1 acc.2.2.2.2, sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) ((hcond0_3 t).mpr h3) (iblk m c 0 t) (iblk m c 1 t) (iblk m c 2 t) (iblk m c 3 t) acc.2.2.1 acc.2.2.2.1 acc.2.2.2.2) :=
  (dif_neg h0).trans ((dif_pos h1).trans ((dif_neg h2).trans ((dif_pos h3).trans rfl)))

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _) (fun h => by (try dsimp only at h); omega) (by (try dsimp only); omega) (fun h => by (try dsimp only at h); omega)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 49 from N_0)
  have e := Pipeline.eq_accAt_of_mod (fun n h => outsAt0 m c n h) 49 (fun n h => stAt0 m c n h junk0) (stAt0 m c)
    (fun n h _ => by
      have hN := lt_of_lt_of_eq h (show cfg0.N = 49 from N_0)
      obtain rfl : n = 0 := by omega
      exact outsAt0_zero m c h)
    (fun n h _ => outsAt0_succ m c n h)
    (by decide) n hn (by have := Nat.div_add_mod n 49; omega)
  have hd : n / 49 = 0 := Nat.div_eq_of_lt hN
  have hm : n % 49 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 4 -/

/-- The block of the array that holds index `i`, numbered in the order the points write the blocks back (one every 49 points),
    `i`'s place in it, and the point that writes it back (the last of its 49). -/
abbrev run4Of (i : S1024x1.Idx) : ℕ := 1 * ((i 0).val / 1024 - 0) + 1 * ((i 1).val / 1 - 0)
set_option backward.proofsInPublic true in
abbrev loc4Of (i : S1024x1.Idx) : S1024x1.Idx := fun a => match a with
  | ⟨0, _⟩ => ⟨(i 0).val % 1024, Nat.mod_lt _ (by decide)⟩
  | ⟨1, _⟩ => ⟨(i 1).val % 1, Nat.mod_lt _ (by decide)⟩
abbrev pt4Of (i : S1024x1.Idx) : ℕ := 49 * run4Of i + 48

/-- WHAT THE ARRAY ENDS HOLDING at index `i` inside the box the flushing blocks fill: output 4's component of the carried
    state's fold at the point that writes `i`'s block back, at `i`'s place in the block. `G4` states the array's contents
    only inside the box. -/
def G4 (c : Dev nD) : Buf (Elt F) ((c : Thread nD τ).loc main_v1_0) := fun i =>
  if h : pt4Of i < cfg0.N then
    (Pipeline.accAt (fun n h => stAt0 m c n h junk0) (stAt0 m c) 0 (pt4Of i) (by omega)).1 (loc4Of i)
  else V m c (Pipeline.arrRef spec0 4) i

/-- The printed index map, decided over the grid: output window 4's block indices stay in the box, and the block number
    read off them is the point's (`t / 49`). -/
theorem idx_facts4 : ∀ t : Fin cfg0.N, 0 ≤ win0_4.index t (0 : Fin 2) ∧ win0_4.index t (0 : Fin 2) ≤ 0
    ∧ 0 ≤ win0_4.index t (1 : Fin 2) ∧ win0_4.index t (1 : Fin 2) ≤ 0
    ∧ 1 * (win0_4.index t (0 : Fin 2) - 0) + 1 * (win0_4.index t (1 : Fin 2) - 0) = t.val / 49 :=
  (by decide +kernel : ∀ t : Fin grid0.N, _)

/-- Every block of the box is SOME flushing point's: `onto4Pt`, the point that writes back the block at place `q` of the box (the last point of its run). -/
abbrev onto4Pt (q0 : Fin 1) (q1 : Fin 1) : Fin grid0.N :=
  ⟨49 * (1 * q0.val + 1 * q1.val) + 48, lt_of_lt_of_eq (by omega) N_0.symm⟩
theorem idx_onto4 : ∀ (q0 : Fin 1) (q1 : Fin 1), ∃ t : Fin cfg0.N, (cfg0.win 4).flush t = true ∧ win0_4.index t = ![q0.val + 0, q1.val + 0] :=
  fun q0 q1 => ⟨onto4Pt q0 q1, (by decide +kernel : ∀ (q0 : Fin 1) (q1 : Fin 1), win0_4.flush (onto4Pt q0 q1) = true ∧ win0_4.index (onto4Pt q0 q1) = ![q0.val + 0, q1.val + 0]) q0 q1⟩

/-- WHAT A FLUSHING POINT `t` WRITES BACK is block `t` of `G4`: output 4's component of the fold up to `t`. -/
theorem flushed4_eq (c : Dev nD) (t : Fin cfg0.N) (hf : (cfg0.win 4).flush t = true) :
    (dats m 0 c).flushed 4 t = ((cfg0.win 4).blk t).view.read (Elt F) (G4 m c) := by
  show (cfg0.win 4).cut (grid0.coords t) ((dats m 0 c).after 4 t) = _
  rw [after0_4, outsAt0_sweep]
  have hm : t.val % 49 = 48 := (flush0_4 t).mp hf
  obtain ⟨e0, e1, e2⟩ := idx_facts4 t
  funext y
  have hy0 : (y 0).val < 1024 := (y 0).isLt
  have hy1 : (y 1).val < 1 := (y 1).isLt
  have hb0 : (((cfg0.win 4).blk t).view.emb y 0).val = win0_4.index t (0 : Fin 2) * 1024 + 1 * (y 0).val := rfl
  have hb1 : (((cfg0.win 4).blk t).view.emb y 1).val = win0_4.index t (1 : Fin 2) * 1 + 1 * (y 1).val := rfl
  have hr : run4Of (((cfg0.win 4).blk t).view.emb y) = t.val / 49 := by
    show 1 * ((((cfg0.win 4).blk t).view.emb y 0).val / 1024 - 0) + 1 * ((((cfg0.win 4).blk t).view.emb y 1).val / 1 - 0) = _
    rw [hb0, hb1]
    rw [show (win0_4.index t (0 : Fin 2) * 1024 + 1 * (y 0).val) / 1024 = win0_4.index t (0 : Fin 2) from by omega]; rw [show (win0_4.index t (1 : Fin 2) * 1 + 1 * (y 1).val) / 1 = win0_4.index t (1 : Fin 2) from by omega]
    omega
  have hl : loc4Of (((cfg0.win 4).blk t).view.emb y) = (cfg0.win 4).xinj (grid0.coords t) y := by
    funext a; apply Fin.ext
    match a with
    | ⟨0, _⟩ => show (((cfg0.win 4).blk t).view.emb y 0).val % 1024 = (y 0).val; rw [hb0]; omega
    | ⟨1, _⟩ => show (((cfg0.win 4).blk t).view.emb y 1).val % 1 = (y 1).val; rw [hb1]; omega
  have hp : pt4Of (((cfg0.win 4).blk t).view.emb y) = t.val := by
    show 49 * run4Of (((cfg0.win 4).blk t).view.emb y) + 48 = _
    rw [hr]; have := Nat.div_add_mod t.val 49; omega
  show (Pipeline.accAt (fun n h => stAt0 m c n h junk0) (stAt0 m c) 0 t.val _).1 ((cfg0.win 4).xinj (grid0.coords t) y) = G4 m c (((cfg0.win 4).blk t).view.emb y)
  unfold G4
  rw [dif_pos (by rw [hp]; exact t.isLt), hl, fold0_congr m c _ _ _ _ hp.symm]

/-- An index of the array is in point `t`'s block iff each coordinate is in the block's range on its axis. -/
theorem mem_blk4 (t : Fin cfg0.N) (i : S1024x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v1_0).slice (win0_4.rect t)).set ↔ _
  rw [View.set_slice_whole, Rect.mem_set_unit]
  exact Iff.rfl

/-- THE COVERED INDICES: in some flushing point's block iff inside the box those blocks fill. -/
theorem covered_iff4 (i : S1024x1.Idx) :
    (∃ t : Fin cfg0.N, (cfg0.win 4).flush t = true ∧ i ∈ ((cfg0.win 4).blk t).view.set) ↔ 0 ≤ (i 0).val ∧ (i 0).val < 1024 ∧ 0 ≤ (i 1).val ∧ (i 1).val < 1 := by
  constructor
  · rintro ⟨t, -, hi⟩
    rw [mem_blk4] at hi
    have b0 : win0_4.index t (0 : Fin 2) * 1024 ≤ (i 0).val ∧ (i 0).val < win0_4.index t (0 : Fin 2) * 1024 + 1024 := hi 0
    have b1 : win0_4.index t (1 : Fin 2) * 1 ≤ (i 1).val ∧ (i 1).val < win0_4.index t (1 : Fin 2) * 1 + 1 := hi 1
    obtain ⟨e0, e1, e2⟩ := idx_facts4 t
    omega
  · intro h
    have hi0 : (i 0).val < 1024 := (i 0).isLt
    have hi1 : (i 1).val < 1 := (i 1).isLt
    obtain ⟨t, hft, ht⟩ := idx_onto4 ⟨(i 0).val / 1024 - 0, by omega⟩ ⟨(i 1).val / 1 - 0, by omega⟩
    have q0 : win0_4.index t (0 : Fin 2) = (i 0).val / 1024 - 0 + 0 := congrFun ht 0
    have q1 : win0_4.index t (1 : Fin 2) = (i 1).val / 1 - 0 + 0 := congrFun ht 1
    refine ⟨t, hft, ?_⟩
    rw [mem_blk4]
    intro a
    match a with
    | ⟨0, _⟩ => show win0_4.index t (0 : Fin 2) * 1024 ≤ (i 0).val ∧ (i 0).val < win0_4.index t (0 : Fin 2) * 1024 + 1024; omega
    | ⟨1, _⟩ => show win0_4.index t (1 : Fin 2) * 1 ≤ (i 1).val ∧ (i 1).val < win0_4.index t (1 : Fin 2) * 1 + 1; omega

/-- THE ARRAY after the run: `G4` (the flushing blocks tile it). -/
theorem final4 (c : Dev nD) : (dats m 0 c).arrAt 4 cfg0.N = G4 m c :=
  (dats m 0 c).arrAt_eq_of_cover 4 _ (fun t hf => flushed4_eq m c t hf) (fun i => (covered_iff4 i).2 (by
    have h0 : (i 0).val < 1024 := (i 0).isLt; have h1 : (i 1).val < 1 := (i 1).isLt; omega))

/-- Output 4 is written back ONCE, at the last point, and its block is its array: the array after the run is output 4's
    component of the fold over the whole grid — where a hand proof over this window starts. -/
theorem G4_last (c : Dev nD) :
    G4 m c = (Pipeline.accAt (fun n h => stAt0 m c n h junk0) (stAt0 m c) 0 48 (lt_of_lt_of_eq (by decide) N_0.symm)).1 := by
  funext i
  have hi0 : (i 0).val < 1024 := (i 0).isLt
  have hi1 : (i 1).val < 1 := (i 1).isLt
  have hp : pt4Of i = 48 := by
    show 49 * (1 * ((i 0).val / 1024 - 0) + 1 * ((i 1).val / 1 - 0)) + 48 = _
    omega
  have hl : loc4Of i = i := by
    funext a; apply Fin.ext
    match a with
    | ⟨0, _⟩ => show (i 0).val % 1024 = (i 0).val; omega
    | ⟨1, _⟩ => show (i 1).val % 1 = (i 1).val; omega
  unfold G4
  rw [dif_pos (by rw [hp]; exact lt_of_lt_of_eq (by decide) N_0.symm), hl, fold0_congr m c _ _ _ _ hp]

/-! ## Output window 5 -/

/-- The block of the array that holds index `i`, numbered in the order the points write the blocks back (one every 49 points),
    `i`'s place in it, and the point that writes it back (the last of its 49). -/
abbrev run5Of (i : S1024x1.Idx) : ℕ := 1 * ((i 0).val / 1024 - 0) + 1 * ((i 1).val / 1 - 0)
set_option backward.proofsInPublic true in
abbrev loc5Of (i : S1024x1.Idx) : S1024x1.Idx := fun a => match a with
  | ⟨0, _⟩ => ⟨(i 0).val % 1024, Nat.mod_lt _ (by decide)⟩
  | ⟨1, _⟩ => ⟨(i 1).val % 1, Nat.mod_lt _ (by decide)⟩
abbrev pt5Of (i : S1024x1.Idx) : ℕ := 49 * run5Of i + 48

/-- WHAT THE ARRAY ENDS HOLDING at index `i` inside the box the flushing blocks fill: output 5's component of the carried
    state's fold at the point that writes `i`'s block back, at `i`'s place in the block. `G5` states the array's contents
    only inside the box. -/
def G5 (c : Dev nD) : Buf (Elt F) ((c : Thread nD τ).loc main_v1_1) := fun i =>
  if h : pt5Of i < cfg0.N then
    (Pipeline.accAt (fun n h => stAt0 m c n h junk0) (stAt0 m c) 0 (pt5Of i) (by omega)).2.1 (loc5Of i)
  else V m c (Pipeline.arrRef spec0 5) i

/-- The printed index map, decided over the grid: output window 5's block indices stay in the box, and the block number
    read off them is the point's (`t / 49`). -/
theorem idx_facts5 : ∀ t : Fin cfg0.N, 0 ≤ win0_5.index t (0 : Fin 2) ∧ win0_5.index t (0 : Fin 2) ≤ 0
    ∧ 0 ≤ win0_5.index t (1 : Fin 2) ∧ win0_5.index t (1 : Fin 2) ≤ 0
    ∧ 1 * (win0_5.index t (0 : Fin 2) - 0) + 1 * (win0_5.index t (1 : Fin 2) - 0) = t.val / 49 :=
  (by decide +kernel : ∀ t : Fin grid0.N, _)

/-- Every block of the box is SOME flushing point's: `onto5Pt`, the point that writes back the block at place `q` of the box (the last point of its run). -/
abbrev onto5Pt (q0 : Fin 1) (q1 : Fin 1) : Fin grid0.N :=
  ⟨49 * (1 * q0.val + 1 * q1.val) + 48, lt_of_lt_of_eq (by omega) N_0.symm⟩
theorem idx_onto5 : ∀ (q0 : Fin 1) (q1 : Fin 1), ∃ t : Fin cfg0.N, (cfg0.win 5).flush t = true ∧ win0_5.index t = ![q0.val + 0, q1.val + 0] :=
  fun q0 q1 => ⟨onto5Pt q0 q1, (by decide +kernel : ∀ (q0 : Fin 1) (q1 : Fin 1), win0_5.flush (onto5Pt q0 q1) = true ∧ win0_5.index (onto5Pt q0 q1) = ![q0.val + 0, q1.val + 0]) q0 q1⟩

/-- WHAT A FLUSHING POINT `t` WRITES BACK is block `t` of `G5`: output 5's component of the fold up to `t`. -/
theorem flushed5_eq (c : Dev nD) (t : Fin cfg0.N) (hf : (cfg0.win 5).flush t = true) :
    (dats m 0 c).flushed 5 t = ((cfg0.win 5).blk t).view.read (Elt F) (G5 m c) := by
  show (cfg0.win 5).cut (grid0.coords t) ((dats m 0 c).after 5 t) = _
  rw [after0_5, outsAt0_sweep]
  have hm : t.val % 49 = 48 := (flush0_5 t).mp hf
  obtain ⟨e0, e1, e2⟩ := idx_facts5 t
  funext y
  have hy0 : (y 0).val < 1024 := (y 0).isLt
  have hy1 : (y 1).val < 1 := (y 1).isLt
  have hb0 : (((cfg0.win 5).blk t).view.emb y 0).val = win0_5.index t (0 : Fin 2) * 1024 + 1 * (y 0).val := rfl
  have hb1 : (((cfg0.win 5).blk t).view.emb y 1).val = win0_5.index t (1 : Fin 2) * 1 + 1 * (y 1).val := rfl
  have hr : run5Of (((cfg0.win 5).blk t).view.emb y) = t.val / 49 := by
    show 1 * ((((cfg0.win 5).blk t).view.emb y 0).val / 1024 - 0) + 1 * ((((cfg0.win 5).blk t).view.emb y 1).val / 1 - 0) = _
    rw [hb0, hb1]
    rw [show (win0_5.index t (0 : Fin 2) * 1024 + 1 * (y 0).val) / 1024 = win0_5.index t (0 : Fin 2) from by omega]; rw [show (win0_5.index t (1 : Fin 2) * 1 + 1 * (y 1).val) / 1 = win0_5.index t (1 : Fin 2) from by omega]
    omega
  have hl : loc5Of (((cfg0.win 5).blk t).view.emb y) = (cfg0.win 5).xinj (grid0.coords t) y := by
    funext a; apply Fin.ext
    match a with
    | ⟨0, _⟩ => show (((cfg0.win 5).blk t).view.emb y 0).val % 1024 = (y 0).val; rw [hb0]; omega
    | ⟨1, _⟩ => show (((cfg0.win 5).blk t).view.emb y 1).val % 1 = (y 1).val; rw [hb1]; omega
  have hp : pt5Of (((cfg0.win 5).blk t).view.emb y) = t.val := by
    show 49 * run5Of (((cfg0.win 5).blk t).view.emb y) + 48 = _
    rw [hr]; have := Nat.div_add_mod t.val 49; omega
  show (Pipeline.accAt (fun n h => stAt0 m c n h junk0) (stAt0 m c) 0 t.val _).2.1 ((cfg0.win 5).xinj (grid0.coords t) y) = G5 m c (((cfg0.win 5).blk t).view.emb y)
  unfold G5
  rw [dif_pos (by rw [hp]; exact t.isLt), hl, fold0_congr m c _ _ _ _ hp.symm]

/-- An index of the array is in point `t`'s block iff each coordinate is in the block's range on its axis. -/
theorem mem_blk5 (t : Fin cfg0.N) (i : S1024x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v1_1).slice (win0_5.rect t)).set ↔ _
  rw [View.set_slice_whole, Rect.mem_set_unit]
  exact Iff.rfl

/-- THE COVERED INDICES: in some flushing point's block iff inside the box those blocks fill. -/
theorem covered_iff5 (i : S1024x1.Idx) :
    (∃ t : Fin cfg0.N, (cfg0.win 5).flush t = true ∧ i ∈ ((cfg0.win 5).blk t).view.set) ↔ 0 ≤ (i 0).val ∧ (i 0).val < 1024 ∧ 0 ≤ (i 1).val ∧ (i 1).val < 1 := by
  constructor
  · rintro ⟨t, -, hi⟩
    rw [mem_blk5] at hi
    have b0 : win0_5.index t (0 : Fin 2) * 1024 ≤ (i 0).val ∧ (i 0).val < win0_5.index t (0 : Fin 2) * 1024 + 1024 := hi 0
    have b1 : win0_5.index t (1 : Fin 2) * 1 ≤ (i 1).val ∧ (i 1).val < win0_5.index t (1 : Fin 2) * 1 + 1 := hi 1
    obtain ⟨e0, e1, e2⟩ := idx_facts5 t
    omega
  · intro h
    have hi0 : (i 0).val < 1024 := (i 0).isLt
    have hi1 : (i 1).val < 1 := (i 1).isLt
    obtain ⟨t, hft, ht⟩ := idx_onto5 ⟨(i 0).val / 1024 - 0, by omega⟩ ⟨(i 1).val / 1 - 0, by omega⟩
    have q0 : win0_5.index t (0 : Fin 2) = (i 0).val / 1024 - 0 + 0 := congrFun ht 0
    have q1 : win0_5.index t (1 : Fin 2) = (i 1).val / 1 - 0 + 0 := congrFun ht 1
    refine ⟨t, hft, ?_⟩
    rw [mem_blk5]
    intro a
    match a with
    | ⟨0, _⟩ => show win0_5.index t (0 : Fin 2) * 1024 ≤ (i 0).val ∧ (i 0).val < win0_5.index t (0 : Fin 2) * 1024 + 1024; omega
    | ⟨1, _⟩ => show win0_5.index t (1 : Fin 2) * 1 ≤ (i 1).val ∧ (i 1).val < win0_5.index t (1 : Fin 2) * 1 + 1; omega

/-- THE ARRAY after the run: `G5` (the flushing blocks tile it). -/
theorem final5 (c : Dev nD) : (dats m 0 c).arrAt 5 cfg0.N = G5 m c :=
  (dats m 0 c).arrAt_eq_of_cover 5 _ (fun t hf => flushed5_eq m c t hf) (fun i => (covered_iff5 i).2 (by
    have h0 : (i 0).val < 1024 := (i 0).isLt; have h1 : (i 1).val < 1 := (i 1).isLt; omega))

/-- Output 5 is written back ONCE, at the last point, and its block is its array: the array after the run is output 5's
    component of the fold over the whole grid — where a hand proof over this window starts. -/
theorem G5_last (c : Dev nD) :
    G5 m c = (Pipeline.accAt (fun n h => stAt0 m c n h junk0) (stAt0 m c) 0 48 (lt_of_lt_of_eq (by decide) N_0.symm)).2.1 := by
  funext i
  have hi0 : (i 0).val < 1024 := (i 0).isLt
  have hi1 : (i 1).val < 1 := (i 1).isLt
  have hp : pt5Of i = 48 := by
    show 49 * (1 * ((i 0).val / 1024 - 0) + 1 * ((i 1).val / 1 - 0)) + 48 = _
    omega
  have hl : loc5Of i = i := by
    funext a; apply Fin.ext
    match a with
    | ⟨0, _⟩ => show (i 0).val % 1024 = (i 0).val; omega
    | ⟨1, _⟩ => show (i 1).val % 1 = (i 1).val; omega
  unfold G5
  rw [dif_pos (by rw [hp]; exact lt_of_lt_of_eq (by decide) N_0.symm), hl, fold0_congr m c _ _ _ _ hp]

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v1_0) = G4 m c
      ∧ r.2.mem ((c : Thread nD τ).loc main_v1_1) = G5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(post4 m r h c).trans (final4 m c),
      (post5 m r h c).trans (final5 m c),
      kept_main_arg0 m r h c,
      kept_main_arg1 m r h c,
      kept_main_arg2 m r h c,
      kept_main_arg3 m r h c⟩)
    (run_main m ρ)

end Cert.KernelIdeal.Value

end
-- ==== Proof.Sweep.lean ====
/-
  The sweep over the keys' blocks: after each point the carried record of a row and lane is `FirstMax`'s record of that
  lane, over the row of scores; so the last point's results are the distance and the number of the row's first greatest
  score.
-/
module

public import proofs.«01_k».proof.Proof.AtIndex
public import proofs.«01_k».proof.Proof.Blocks
public import proofs.«01_k».proof.Proof.Carry.KernelIdeal.Value

@[expose] public section

set_option maxRecDepth 16384

noncomputable section

open Idealize.ShloMosaic Idealize.ShloMosaic.TcCoe Idealize.SL.Sem

namespace Cert.KernelIdeal.Cases

open Cert.KernelIdeal.Gen Cert.KernelIdeal.Carry Cert.Nearest

variable (m : (ℓ : Loc nD τ sig) → Buf (Elt Ideal) ℓ)

/-- A query's row. -/
def qRow (c : Dev nD) (r : Fin 1024) : Fin 128 → EReal := fun d =>
  (m ((c : Thread nD τ).loc main_arg0) : Vec Ideal S1024x128 .f32) (ix2 r d)

/-- A key's row. -/
def kRow (c : Dev nD) (n : ℕ) : Fin 128 → EReal := fun d =>
  if h : n < 100000 then (m ((c : Thread nD τ).loc main_arg1) : Vec Ideal S100000x128 .f32) (ix2 ⟨n, h⟩ d) else 0

/-- The weight. -/
def wOf (c : Dev nD) : EReal := (m ((c : Thread nD τ).loc main_arg2) : Vec Ideal S1 .f32) (ix1 0)

/-- The offset. -/
def bOf (c : Dev nD) : EReal := (m ((c : Thread nD τ).loc main_arg3) : Vec Ideal S1 .f32) (ix1 0)

/-- The row of scores of a query. -/
def sRow (c : Dev nD) (r : Fin 1024) : ℕ → EReal := row (wOf m c) (qRow m c r) (kRow m c)

/-- The scaled and signed queries, as they are carried. -/
def Signed (c : Dev nD) (q : Vec Ideal S1024x128 .bf16) : Prop :=
  ∀ r d, q (ix2 r d) = unit (qRow m c r) d * sgn (wOf m c)

/-- The records of all rows and lanes after `n` chunks. -/
def Record (c : Dev nD) (n : ℕ) (mx : Vec Ideal S1024x128 .f32) (ix : Vec Ideal S1024x128 .i32) : Prop :=
  ∀ (r : Fin 1024) (l : Fin 128), mx (ix2 r l) = (lane (sRow m c r) n l.val).1
    ∧ ix (ix2 r l) = BitVec.ofNat 32 (lane (sRow m c r) n l.val).2

/-- The first point's queries. -/
theorem signed_first (c : Dev nD) (t : Fin cfg0.N) :
    Signed m c (k0_pay2 (only (iblk m c 2 t : Vec Ideal S1 .f32)) (iblk m c 0 t : Vec Ideal S1024x128 .f32)) := fun r d => by
  rw [pay2_at, only_w]
  congr 2
  exact funext fun d => iblk_q m c t r d

/-- The empty record. -/
theorem record_first (c : Dev nD) : Record m c 0 (k0_pay3 (F := Ideal)) k0_pay4 := fun r l => ⟨pay3_at r l, pay4_at r l⟩

/-- A point's block holds the keys' rows. -/
theorem iblk_key (c : Dev nD) (t : Fin cfg0.N) (j : Fin 2048) (h : t.val * 2048 + j.val < 100000) :
    (fun d => (iblk m c 1 t : Vec Ideal S2048x128 .f32) (ix2 j d)) = kRow m c (t.val * 2048 + j.val) := by
  funext d
  rw [iblk_k m c t j d (by omega), V_keys m c _ ⟨t.val * 2048 + j.val, h⟩ d rfl]
  unfold kRow
  rw [dif_pos h]

/-- A tile holds the row's scores. -/
theorem tile_at (c : Dev nD) (t : Fin cfg0.N) {q : Vec Ideal S1024x128 .bf16} (hq : Signed m c q) (r : Fin 1024)
    (j : Fin 2048) (h : t.val * 2048 + j.val < 100000) :
    k0_pay5 (iblk m c 1 t : Vec Ideal S2048x128 .f32) q (ix2 r j) = sRow m c r (t.val * 2048 + j.val) := by
  rw [pay5_at, iblk_key m c t j h]
  unfold sRow row score
  rw [if_pos h]
  exact Finset.sum_congr rfl fun d _ => by rw [hq r d]

/-- A whole tile carries the records on. -/
theorem record_whole (c : Dev nD) (t : Fin cfg0.N) (ht : t.val < 48) {q : Vec Ideal S1024x128 .bf16}
    {mx : Vec Ideal S1024x128 .f32} {ix : Vec Ideal S1024x128 .i32} (hq : Signed m c q)
    (h : Record m c (t.val * 16) mx ix) :
    Record m c (t.val * 16 + 16) (wholeM (k0_pay5 (iblk m c 1 t : Vec Ideal S2048x128 .f32) q) mx)
      (wholeI (pt (grid0.coords t)) (k0_pay5 (iblk m c 1 t : Vec Ideal S2048x128 .f32) q) mx ix) := fun r l => by
  have htile : ∀ (j : ℕ) (x : Fin 2048), x.val = j * 128 + l.val →
      k0_pay5 (iblk m c 1 t : Vec Ideal S2048x128 .f32) q (ix2 r x)
        = (fun g => sRow m c r (g * 128 + l.val)) (t.val * 16 + j) := fun j x hx => by
    have := x.isLt
    rw [tile_at m c t hq r x (by omega)]
    exact congrArg _ (by omega)
  unfold pt
  rw [coord_all t]
  exact ⟨wholeM_at _ _ r l t.val htile (h r l).1, wholeI_at _ _ _ r l t.val htile (h r l).1 (h r l).2⟩

/-- The last tile carries the records on to the end of the row. -/
theorem record_last (c : Dev nD) (t : Fin cfg0.N) (ht : t.val = 48) {q : Vec Ideal S1024x128 .bf16}
    {mx : Vec Ideal S1024x128 .f32} {ix : Vec Ideal S1024x128 .i32} (hq : Signed m c q)
    (h : Record m c (t.val * 16) mx ix) :
    Record m c (t.val * 16 + 16) (lastM (pt (grid0.coords t)) (k0_pay5 (iblk m c 1 t : Vec Ideal S2048x128 .f32) q) mx)
      (lastI (pt (grid0.coords t)) (k0_pay5 (iblk m c 1 t : Vec Ideal S2048x128 .f32) q) mx ix) := fun r l => by
  unfold pt
  rw [coord_all t]
  have htile : ∀ (j : ℕ) (x : Fin 2048), x.val = j * 128 + l.val →
      k0_pay15 (BitVec.ofNat 32 t.val) (k0_pay5 (iblk m c 1 t : Vec Ideal S2048x128 .f32) q) (ix2 r x)
        = (fun g => sRow m c r (g * 128 + l.val)) (t.val * 16 + j) := fun j x hx => by
    have := x.isLt
    rw [pay15_at t.val (by omega)]
    show _ = sRow m c r ((t.val * 16 + j) * 128 + l.val)
    rw [show (t.val * 16 + j) * 128 + l.val = t.val * 2048 + x.val by omega]
    by_cases hx : t.val * 2048 + x.val < 100000
    · rw [if_pos hx, tile_at m c t hq r x hx]
    · unfold sRow row
      rw [if_neg hx, if_neg hx]
  exact ⟨lastM_at _ _ r l t.val htile (h r l).1, lastI_at _ _ _ r l t.val htile (h r l).1 (h r l).2⟩

/-- What is carried after the first point. -/
theorem carried_first (c : Dev nD) (t : Fin cfg0.N) (ht : t.val = 0) :
    Signed m c (outsAt0 m c t.val t.isLt).2.2.1
      ∧ Record m c (t.val * 16 + 16) (outsAt0 m c t.val t.isLt).2.2.2.1 (outsAt0 m c t.val t.isLt).2.2.2.2 := by
  rw [outsAt0_A m c t (by omega) (by omega) (by omega) (by omega)]
  dsimp only
  rw [sout_A_0, sout_A_1, sout_A_2]
  have hq := signed_first m c t
  have h0 : Record m c (t.val * 16) (k0_pay3 (F := Ideal)) k0_pay4 := by
    rw [ht]
    exact record_first m c
  exact ⟨hq, record_whole m c t (by omega) hq h0⟩

/-- What is carried after a middle point, from what was before it. -/
theorem carried_next (c : Dev nD) (t : Fin cfg0.N) (h0 : 0 < t.val) (ht : t.val < 48)
    (hq : Signed m c (outsAt0 m c (t.val - 1) (by omega)).2.2.1)
    (hr : Record m c (t.val * 16) (outsAt0 m c (t.val - 1) (by omega)).2.2.2.1
      (outsAt0 m c (t.val - 1) (by omega)).2.2.2.2) :
    Signed m c (outsAt0 m c t.val t.isLt).2.2.1
      ∧ Record m c (t.val * 16 + 16) (outsAt0 m c t.val t.isLt).2.2.2.1 (outsAt0 m c t.val t.isLt).2.2.2.2 := by
  rw [outsAt0_B m c t (by omega) (by omega) (by omega) (by omega)]
  dsimp only
  rw [sout_B_1, sout_B_2]
  unfold sout0_B_0
  exact ⟨hq, record_whole m c t ht hq hr⟩

/-- What is carried after a point before the last. -/
theorem carried (c : Dev nD) : ∀ (n : ℕ) (hn : n < cfg0.N), n < 48 →
    Signed m c (outsAt0 m c n hn).2.2.1
      ∧ Record m c (n * 16 + 16) (outsAt0 m c n hn).2.2.2.1 (outsAt0 m c n hn).2.2.2.2
  | 0, hn, _ => carried_first m c ⟨0, hn⟩ rfl
  | n + 1, hn, h => by
    obtain ⟨hq, hr⟩ := carried c n (Nat.lt_of_succ_lt hn) (by omega)
    rw [← Nat.succ_mul] at hr
    exact carried_next m c ⟨n + 1, hn⟩ (Nat.succ_pos n) h hq hr

/-- The last point's stored results. -/
theorem outs_last (c : Dev nD) (t : Fin cfg0.N) (ht : t.val = 48) (r : Fin 1024) {k : ℕ}
    (hk : IsFirst (sRow m c r) (784 * 128) k) (hb : ⊥ < sRow m c r k)
    (hq : Signed m c (outsAt0 m c (t.val - 1) (by omega)).2.2.1)
    (hr : Record m c (t.val * 16) (outsAt0 m c (t.val - 1) (by omega)).2.2.2.1
      (outsAt0 m c (t.val - 1) (by omega)).2.2.2.2) :
    (outsAt0 m c t.val t.isLt).1 (ix2 r 0)
        = (if Ideal.ofBits .f32 0x3F000000#32
              ≤ Ideal.logistic (wOf m c * (sRow m c r k * sgn (wOf m c)) + bOf m c) then BitVec.ofNat 32 k
          else 4294967295#32)
      ∧ (outsAt0 m c t.val t.isLt).2.1 (ix2 r 0)
        = Ideal.logistic (wOf m c * (sRow m c r k * sgn (wOf m c)) + bOf m c) := by
  have h := record_last m c t ht hq hr
  rw [outsAt0_C m c t (by omega) (by omega) (by omega) (by omega)]
  dsimp only
  rw [out_C_4, out_C_5, only_w, only_b]
  generalize lastM (F := Ideal) _ _ _ = mx at h ⊢
  generalize lastI (F := Ideal) _ _ _ _ = ix at h ⊢
  rw [show t.val * 16 + 16 = 784 by omega] at h
  have hl : k % 128 < 128 := Nat.mod_lt _ (by decide)
  obtain ⟨f1, f2⟩ := lane_first hk hb
  have hle := fun l : Fin 128 => (h r l).1.trans_le (lane_le hk l.isLt)
  have h0 := (h r ⟨k % 128, hl⟩).1.trans f1
  refine ⟨?_, pay13_at _ _ _ r hle ⟨k % 128, hl⟩ h0⟩
  exact pay14_at _ _ _ _ r (fun l => (lane (sRow m c r) 784 l.val).2) (show k < 100352 from hk.1) hle (fun l => (h r l).2)
    (fun l hm => le_lane hk hb ((h r l).1.symm.trans hm)) ⟨k % 128, hl⟩ h0 f2

/-- The last point's results: the label and the distance of the row's first greatest score. -/
theorem results (c : Dev nD) (t : Fin cfg0.N) (ht : t.val = 48) (r : Fin 1024) {k : ℕ}
    (hk : IsFirst (sRow m c r) (784 * 128) k) (hb : ⊥ < sRow m c r k) :
    (outsAt0 m c t.val t.isLt).1 (ix2 r 0)
        = (if Ideal.ofBits .f32 0x3F000000#32
              ≤ Ideal.logistic (wOf m c * (sRow m c r k * sgn (wOf m c)) + bOf m c) then BitVec.ofNat 32 k
          else 4294967295#32)
      ∧ (outsAt0 m c t.val t.isLt).2.1 (ix2 r 0)
        = Ideal.logistic (wOf m c * (sRow m c r k * sgn (wOf m c)) + bOf m c) := by
  obtain ⟨hq, hr⟩ := carried m c (t.val - 1) (by omega) (by omega)
  rw [show (t.val - 1) * 16 + 16 = t.val * 16 by omega] at hr
  exact outs_last m c t ht r hk hb hq hr

end Cert.KernelIdeal.Cases

end
-- ==== Proof.RefValue.lean ====
/-
  The reference's two results at a row, over the extended reals: its distances are `Scale`'s `dist`, and the top one of
  a row is the value and the number of the row's first greatest.
-/
module

public import proofs.«01_k».proof.Proof.Gen.ReferenceIdeal.Run
public import proofs.«01_k».proof.Proof.Scale
public import Idealize.ShloMosaic.Lib.Pointwise
public import Idealize.ShloMosaic.Lib.IdealHost

@[expose] public section

set_option maxRecDepth 16384

noncomputable section

open Idealize.ShloMosaic Idealize.ShloMosaic.TcCoe Idealize.SL.Sem

namespace Cert.ReferenceIdeal.Top

open Cert.ReferenceIdeal.Gen Cert.Nearest

/-- The reference's distances. -/
def distances (q : Vec Ideal S1024x128 .f32) (k : Vec Ideal S100000x128 .f32) (w b : Vec Ideal S1 .f32) :
    FVec Ideal S1024x100000 .f32 :=
  Host.divf (broadcastInDim S1024x100000 ![] bcast_S_S1024x100000 (constant S_ .f32 0x3F800000#32)) (addf
  (broadcastInDim S1024x100000 ![] bcast_S_S1024x100000 (constant S_ .f32 0x3F800000#32)) (Host.exp (Host.negf (addf
  (mulf (broadcastInDim S1024x100000 ![] bcast_S_S1024x100000 (shapeCast _ w shapeCasts_S1_S_)) (Host.dotGeneral
  dot_S1024x128_S128x100000_S1024x100000_1_0_0_1_n_n none (Host.divf q (broadcastInDim S1024x128 ![0, 1]
  bcast_S1024x1_S1024x128_0_1 (addf (Host.sqrt (broadcastInDim S1024x1 ![0] bcast_S1024_S1024x1_0 (Host.reduceAdd
  (mulf q q) (constant S_ .f32 0x00000000#32) reducesTo_S1024x128_S1024_d1 h_S_))) (broadcastInDim S1024x1 ![]
  bcast_S_S1024x1 (constant S_ .f32 0x2B8CBCCC#32))))) (transpose S128x100000 [1, 0] (Host.divf k (broadcastInDim
  S100000x128 ![0, 1] bcast_S100000x1_S100000x128_0_1 (addf (Host.sqrt (broadcastInDim S100000x1 ![0]
  bcast_S100000_S100000x1_0 (Host.reduceAdd (mulf k k) (constant S_ .f32 0x00000000#32)
  reducesTo_S100000x128_S100000_d1 h_S_))) (broadcastInDim S100000x1 ![] bcast_S_S100000x1 (constant S_ .f32
  0x2B8CBCCC#32))))) transposes_S100000x128_S128x100000_1_0))) (broadcastInDim S1024x100000 ![] bcast_S_S1024x100000
  (shapeCast _ b shapeCasts_S1_S_))))))

/-- The reference's greatest distances, with their places. -/
def best (x : FVec Ideal S1024x100000 .f32) : (S1024x1.Idx → Ideal .f32) × IVec S1024x1 32 :=
  Host.topK S1024x1 1 (FloatOps.cmpfTotal .gt) x sliceFits_S1024x100000_S1024x1

/-- The reference's labels. -/
def labels (x : FVec Ideal S1024x100000 .f32) : IVec S1024x1 32 :=
  broadcastInDim S1024x1 ![0] bcast_S1024_S1024x1_0
    (select (cmpf .oge (shapeCast _ (best x).1 shapeCasts_S1024x1_S1024)
        (broadcastInDim S1024 ![] bcast_S_S1024 (constant S_ .f32 0x3F000000#32)))
      (shapeCast _ (best x).2 shapeCasts_S1024x1_S1024)
      (broadcastInDim S1024 ![] bcast_S_S1024 (id (constantI S_ 32 4294967295#32))))

/-- The reference's values. -/
def values (x : FVec Ideal S1024x100000 .f32) : FVec Ideal S1024x1 .f32 :=
  broadcastInDim S1024x1 ![0] bcast_S1024_S1024x1_0 (shapeCast _ (best x).1 shapeCasts_S1024x1_S1024)

/-- One distance. -/
theorem distances_at (q : Vec Ideal S1024x128 .f32) (k : Vec Ideal S100000x128 .f32) (w b : Vec Ideal S1 .f32)
    (r : Fin 1024) (c : Fin 100000) :
    distances q k w b (ix2 r c) = dist (w (ix1 0)) (b (ix1 0)) (fun d => q (ix2 r d)) (fun d => k (ix2 c d)) := by
  unfold distances
  pointwise []
  rfl

/-- The place of a row's greatest is that of its first. -/
theorem place_eq (x : FVec Ideal S1024x100000 .f32) (r : Fin 1024) {s : ℕ → EReal} {c : ℕ}
    (hx : ∀ k : Fin 100000, x (ix2 r k) = s k.val) (h : IsFirst s 100000 c) (z : Fin 100000) (hz : z.val = 0) :
    sortedFrom (fun k k' : Fin 100000 => Ideal.cmpTotal .gt (x (ix2 r k)) (x (ix2 r k')) == 1#1) z = ⟨c, h.1⟩ := by
  have hc : ∀ k k' : Fin 100000, (Ideal.cmpTotal .gt (x (ix2 r k)) (x (ix2 r k')) == 1#1) = decide (s k'.val < s k.val) :=
    fun k k' => by
      rw [hx, hx]
      show (BitVec.ofBool (decide (s k'.val < s k.val)) == 1#1) = _
      by_cases hk : s k'.val < s k.val <;> simp [hk]
  refine sortedFrom_zero _ _ (fun k => ?_) (fun k hk => ?_) z hz
  · rw [hc]; exact decide_eq_false (not_lt.mpr (h.2.1 k.val k.isLt))
  · rw [hc]; exact decide_eq_true (h.2.2 k.val hk)

/-- The top one of a row: the first greatest's value and number. -/
theorem best_at (x : FVec Ideal S1024x100000 .f32) (r : Fin 1024) {s : ℕ → EReal} {c : ℕ}
    (hx : ∀ k : Fin 100000, x (ix2 r k) = s k.val) (h : IsFirst s 100000 c) :
    (best x).1 (ix2 r 0) = s c ∧ (best x).2 (ix2 r 0) = BitVec.ofNat 32 c := by
  have hp := place_eq x r hx h ⟨0, by decide⟩ rfl
  have ha : ∀ k : Fin 100000, Shape.Idx.along (s := S1024x100000) (ix2 r 0) (1 : Fin 2) k = ix2 r k := fun k => by
    funext a
    fin_cases a <;> rfl
  unfold best Host.topK Host.sort2
  simp only [dif_pos (show 1 < S1024x100000.rank by decide)]
  constructor
  · pointwise []
    simp only [ha]
    exact (congrArg (fun k => x (ix2 r k)) hp).trans (hx ⟨c, h.1⟩)
  · pointwise []
    simp only [ha]
    exact congrArg (fun k : Fin 100000 => BitVec.ofNat 32 k.val) hp

theorem values_at (x : FVec Ideal S1024x100000 .f32) (r : Fin 1024) {s : ℕ → EReal} {c : ℕ}
    (hx : ∀ k : Fin 100000, x (ix2 r k) = s k.val) (h : IsFirst s 100000 c) :
    values x (ix2 r 0) = s c := by
  unfold values
  pointwise []
  exact (best_at x r hx h).1

theorem labels_at (x : FVec Ideal S1024x100000 .f32) (r : Fin 1024) {s : ℕ → EReal} {c : ℕ}
    (hx : ∀ k : Fin 100000, x (ix2 r k) = s k.val) (h : IsFirst s 100000 c) :
    labels x (ix2 r 0)
      = if Ideal.ofBits .f32 0x3F000000#32 ≤ s c then BitVec.ofNat 32 c else 4294967295#32 := by
  unfold labels
  obtain ⟨h1, h2⟩ := best_at x r hx h
  pointwise []
  rw [h1, h2]
  rfl

/-- The reference's run, at these names. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29) = labels (distances (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v30) = values (distances (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.ReferenceIdeal.Value.run m ρ

end Cert.ReferenceIdeal.Top

end
-- ==== Proof.Answer.lean ====
/-
  The two results agree: where the weight and the offset are real, the row's first greatest score is the row's first
  greatest distance, and both programs report its number and its distance.
-/
module

public import proofs.«01_k».proof.Defs
public import proofs.«01_k».proof.Proof.Sweep
public import proofs.«01_k».proof.Proof.RefValue

@[expose] public section

set_option maxRecDepth 16384

noncomputable section

open Idealize.ShloMosaic Idealize.ShloMosaic.TcCoe Idealize.SL.Sem

namespace Cert.Nearest

/-- The predicate's one shape fact. -/
theorem preFacts : Cert.Pre_finite_classifier.Facts := ⟨by decide⟩

/-- Infinity. -/
theorem ofBits_top : Ideal.ofBits .f32 0x7F800000#32 = (⊤ : EReal) := by
  unfold Ideal.ofBits Ideal.ieee
  have hs : (BitVec.extractLsb' (8 + 23) 1 (0x7F800000#32) == 1#1) = false := by decide
  have he : (BitVec.extractLsb' 23 8 (0x7F800000#32)).toNat = 255 := by decide
  have hf : (BitVec.extractLsb' 0 23 (0x7F800000#32)).toNat = 0 := by decide
  simp only [hs, he, hf]
  norm_num

/-- A number the predicate lets through is real. -/
theorem real_of_abs {x : EReal} (h : max x (-x) < ⊤) : ∃ r : ℝ, x = (r : EReal) := by
  refine ⟨x.toReal, (EReal.coe_toReal (fun e => ?_) (fun e => ?_)).symm⟩ <;> subst e <;> simp at h

/-- The predicate makes the weight and the offset real. -/
theorem real_of_pre (q : FVec Ideal Cert.Pre_finite_classifier.S1024x128 .f32)
    (k : FVec Ideal Cert.Pre_finite_classifier.S100000x128 .f32) (w b : FVec Ideal Cert.Pre_finite_classifier.S1 .f32)
    (h : @Cert.Pre_finite_classifier.fn preFacts Ideal _ q k w b = fun _ => 1#1) :
    (∃ r : ℝ, w (ix1 0) = (r : EReal)) ∧ ∃ r : ℝ, b (ix1 0) = (r : EReal) := by
  have h0 := congrFun h ix0
  unfold Cert.Pre_finite_classifier.fn at h0
  pointwise [] at h0
  rw [ofBits_top] at h0
  have split : ∀ p q : Bool, IntOp.andi (BitVec.ofBool p) (BitVec.ofBool q) = 1#1 → p = true ∧ q = true := by decide
  obtain ⟨h1, h2⟩ := split _ _ h0
  exact ⟨real_of_abs (of_decide_eq_true h1), real_of_abs (of_decide_eq_true h2)⟩

end Cert.Nearest

namespace Cert.KernelIdeal.Cases

open Cert.KernelIdeal.Gen Cert.KernelIdeal.Carry Cert.Nearest

variable (m : (ℓ : Loc nD τ sig) → Buf (Elt Ideal) ℓ)

/-- The reference's distances of the kernel's arguments. -/
abbrev dists (c : Dev nD) : FVec Ideal Cert.ReferenceIdeal.S1024x100000 .f32 :=
  Cert.ReferenceIdeal.Top.distances (m ((c : Thread nD τ).loc main_arg0)) (m ((c : Thread nD τ).loc main_arg1))
    (m ((c : Thread nD τ).loc main_arg2)) (m ((c : Thread nD τ).loc main_arg3))

/-- The reference's distances, by the rows the kernel scans. -/
theorem dists_at (c : Dev nD) (r : Fin 1024) (k : Fin 100000) :
    dists m c (ix2 r k) = dist (wOf m c) (bOf m c) (qRow m c r) (kRow m c k.val) := by
  refine (Cert.ReferenceIdeal.Top.distances_at _ _ _ _ r k).trans ?_
  unfold wOf bOf qRow kRow
  simp only [k.isLt, dif_pos]

/-- Both results of a row. -/
theorem row_eq (c : Dev nD) {w b : ℝ} (hw : wOf m c = (w : EReal)) (hb : bOf m c = (b : EReal)) (t : Fin cfg0.N)
    (ht : t.val = 48) (r : Fin 1024) :
    (outsAt0 m c t.val t.isLt).1 (ix2 r 0) = Cert.ReferenceIdeal.Top.labels (dists m c) (ix2 r 0)
      ∧ (outsAt0 m c t.val t.isLt).2.1 (ix2 r 0) = Cert.ReferenceIdeal.Top.values (dists m c) (ix2 r 0) := by
  obtain ⟨k, hk, hf, hpos⟩ := row_first w (qRow m c r) (kRow m c)
  have hd := dist_first w b (qRow m c r) (kRow m c) hk hf
  have hx := dists_at m c r
  rw [hw, hb] at hx
  have hs : sRow m c r = row (w : EReal) (qRow m c r) (kRow m c) := by unfold sRow; rw [hw]
  obtain ⟨e1, e2⟩ := results m c t ht r (hs ▸ hf) (hs ▸ hpos)
  have he : Ideal.logistic (wOf m c * (sRow m c r k * sgn (wOf m c)) + bOf m c)
      = dist (w : EReal) (b : EReal) (qRow m c r) (kRow m c k) := by
    rw [hs, hw, hb]
    unfold row
    rw [if_pos hk]
    exact finish_eq w b _ _
  rw [he] at e1 e2
  exact ⟨e1.trans (Cert.ReferenceIdeal.Top.labels_at (dists m c) r hx hd).symm,
    e2.trans (Cert.ReferenceIdeal.Top.values_at (dists m c) r hx hd).symm⟩

/-- Both results. -/
theorem result_eq (c : Dev nD) {w b : ℝ} (hw : wOf m c = (w : EReal)) (hb : bOf m c = (b : EReal)) :
    Cert.KernelIdeal.Value.G4 m c = Cert.ReferenceIdeal.Top.labels (dists m c)
      ∧ Cert.KernelIdeal.Value.G5 m c = Cert.ReferenceIdeal.Top.values (dists m c) := by
  obtain ⟨t, ht⟩ : ∃ t : Fin cfg0.N, t.val = 48 := ⟨⟨48, lt_of_lt_of_eq (by decide) N_0.symm⟩, rfl⟩
  have h := row_eq m c hw hb t ht
  have e4 : Cert.KernelIdeal.Value.G4 m c = (outsAt0 m c t.val t.isLt).1 := by
    rw [Cert.KernelIdeal.Value.G4_last, Cert.KernelIdeal.Value.outsAt0_sweep]
    simp only [ht]
  have e5 : Cert.KernelIdeal.Value.G5 m c = (outsAt0 m c t.val t.isLt).2.1 := by
    rw [Cert.KernelIdeal.Value.G5_last, Cert.KernelIdeal.Value.outsAt0_sweep]
    simp only [ht]
  rw [e4, e5]
  generalize outsAt0 m c t.val t.isLt = o at h
  have hi : ∀ i : S1024x1.Idx, i = ix2 (i 0) 0 := fun i => by
    funext a
    fin_cases a
    · rfl
    · exact Subsingleton.elim (α := Fin 1) _ _
  constructor
  · funext i
    rw [hi i]
    exact (h (i 0)).1
  · funext i
    rw [hi i]
    exact (h (i 0)).2

end Cert.KernelIdeal.Cases

end
-- ==== Proof.lean ====
/-
  The nearest-key classifier with a running row maximum, against the plain reference.

  The claims, in order: the three programs end with their arguments unchanged and every counter at zero, whatever
  the arguments; the idealized kernel is the kernel's own text; and, where the weight and the offset are finite, both
  results of the idealized kernel are the reference's.
-/
module

public import proofs.«01_k».proof.Defs
public import proofs.«01_k».proof.Proof.Carry.Kernel.Frame
public import proofs.«01_k».proof.Proof.Carry.KernelIdeal.Frame
public import proofs.«01_k».proof.Proof.Gen.ReferenceIdeal.Run
public import proofs.«01_k».proof.Proof.Answer
public import Idealize.ShloMosaic.Lib.Quiescent

@[expose] public section

noncomputable section

namespace Cert.Proof

open Idealize.ShloMosaic Idealize.SL.Sem

/-- The kernel ends with its arguments unchanged and its counters at zero. -/
theorem frame_kernel : Cert.quiescent_Kernel := fun m ρ _ => Cert.Kernel.Carry.frame m ρ

/-- The idealized kernel likewise. -/
theorem frame_kernelIdeal : Cert.quiescent_KernelIdeal := fun m ρ _ => Cert.KernelIdeal.Carry.frame m ρ

/-- The reference likewise: it is host code, with no counter at all. -/
theorem frame_referenceIdeal : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- From the same arguments, with a finite weight and offset, kernel and reference end with the same labels and the
same distances. -/
theorem same_results : Cert.algebraic_KernelIdeal_ReferenceIdeal_pre_finite_classifier
    (hPre_finite_classifier := Cert.Nearest.preFacts) := by
  intro m g m' g' hpre hargs
  refine ⟨Cert.KernelIdeal.Value.G4 m, Cert.KernelIdeal.Value.G5 m, Cert.KernelIdeal.Value.run m g, ?_⟩
  refine (θ_run Cert.ReferenceIdeal.defs _ _).mono (fun r h c => ?_) (Cert.ReferenceIdeal.Top.run m' g')
  obtain ⟨h0, h1, kept⟩ := h c
  obtain ⟨a0, a1, a2, a3⟩ := hargs c
  obtain ⟨⟨w, hw⟩, b, hb⟩ := Cert.Nearest.real_of_pre _ _ _ _ (hpre c)
  obtain ⟨e0, e1⟩ := Cert.KernelIdeal.Cases.result_eq m c hw hb
  rw [a0, a1, a2, a3] at h0 h1
  exact ⟨h0.trans e0.symm, h1.trans e1.symm, kept⟩

/-- Everything claimed. -/
theorem claim : Cert.Claim := ⟨Cert.Kernel.Gen.facts, Cert.KernelIdeal.Gen.facts, Cert.ReferenceIdeal.Gen.facts,
  Cert.Nearest.preFacts, frame_kernel, frame_kernelIdeal, fun m ρ _ => Cert.KernelIdeal.Carry.frame m ρ,
  frame_referenceIdeal, fun m ρ _ => frame_referenceIdeal m ρ trivial, trivial, same_results⟩

end Cert.Proof

end
